-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1x4608 : Shape := ⟨3, ![3072, 1, 4608]⟩
abbrev S36864x2304 : Shape := ⟨2, ![36864, 2304]⟩
abbrev S36864x18 : Shape := ⟨2, ![36864, 18]⟩
abbrev S36864x18x12 : Shape := ⟨3, ![36864, 18, 12]⟩
abbrev S3072x4608 : Shape := ⟨2, ![3072, 4608]⟩
abbrev S18x36864 : Shape := ⟨2, ![18, 36864]⟩
abbrev S18x12x36864 : Shape := ⟨3, ![18, 12, 36864]⟩
abbrev S3072x36864 : Shape := ⟨2, ![3072, 36864]⟩
abbrev S512x2304 : Shape := ⟨2, ![512, 2304]⟩
abbrev S18x512 : Shape := ⟨2, ![18, 512]⟩
abbrev S18x12x512 : Shape := ⟨3, ![18, 12, 512]⟩
abbrev S3072x512 : Shape := ⟨2, ![3072, 512]⟩
abbrev S512x4608 : Shape := ⟨2, ![512, 4608]⟩
abbrev S256x512 : Shape := ⟨2, ![256, 512]⟩
abbrev S512x256 : Shape := ⟨2, ![512, 256]⟩
abbrev S1x12x512 : Shape := ⟨3, ![1, 12, 512]⟩
abbrev S12x512 : Shape := ⟨2, ![12, 512]⟩
abbrev S4x512 : Shape := ⟨2, ![4, 512]⟩
abbrev S8x512 : Shape := ⟨2, ![8, 512]⟩
abbrev S1x512 : Shape := ⟨2, ![1, 512]⟩
abbrev S128x512 : Shape := ⟨2, ![128, 512]⟩
abbrev S512x128 : Shape := ⟨2, ![512, 128]⟩
abbrev S8x128 : Shape := ⟨2, ![8, 128]⟩
abbrev S32x128 : Shape := ⟨2, ![32, 128]⟩
abbrev S8x128x1 : Shape := ⟨3, ![8, 128, 1]⟩
abbrev S32x128x1 : Shape := ⟨3, ![32, 128, 1]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S3072x1x4608, .bf16⟩
  | .hbm, ⟨1, _⟩ => ⟨S36864x2304, .i8⟩
  | .hbm, ⟨2, _⟩ => ⟨S36864x18, .f16⟩
  | .hbm, ⟨3, _⟩ => ⟨S36864x18, .f16⟩
  | .hbm, ⟨4, _⟩ => ⟨S36864x18x12, .i8⟩
  | .hbm, ⟨5, _⟩ => ⟨S3072x4608, .bf16⟩
  | .hbm, ⟨6, _⟩ => ⟨S18x36864, .f16⟩
  | .hbm, ⟨7, _⟩ => ⟨S18x36864, .f16⟩
  | .hbm, ⟨8, _⟩ => ⟨S18x12x36864, .i8⟩
  | .hbm, ⟨9, _⟩ => ⟨S3072x36864, .bf16⟩
  | .local _ .vmem, ⟨0, _⟩ => ⟨S3072x4608, .bf16⟩
  | .local _ .vmem, ⟨1, _⟩ => ⟨S512x2304, .i8⟩
  | .local _ .vmem, ⟨2, _⟩ => ⟨S512x2304, .i8⟩
  | .local _ .vmem, ⟨3, _⟩ => ⟨S18x512, .f16⟩
  | .local _ .vmem, ⟨4, _⟩ => ⟨S18x512, .f16⟩
  | .local _ .vmem, ⟨5, _⟩ => ⟨S18x512, .f16⟩
  | .local _ .vmem, ⟨6, _⟩ => ⟨S18x512, .f16⟩
  | .local _ .vmem, ⟨7, _⟩ => ⟨S18x12x512, .i8⟩
  | .local _ .vmem, ⟨8, _⟩ => ⟨S18x12x512, .i8⟩
  | .local _ .vmem, ⟨9, _⟩ => ⟨S3072x512, .bf16⟩
  | .local _ .vmem, ⟨10, _⟩ => ⟨S3072x512, .bf16⟩
  | .local _ .vmem, ⟨11, _⟩ => ⟨S512x4608, .bf16⟩
  | .local _ .vmem, ⟨12, _⟩ => ⟨S256x512, .f32⟩
  | .local _ .vmem, ⟨13, _⟩ => ⟨S256x512, .f32⟩
  | .local _ .vmem, ⟨14, _⟩ => ⟨S512x256, .f32⟩
  | .local _ .vmem, ⟨15, _⟩ => ⟨S512x256, .f32⟩
  | _, _ => ⟨S3072x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![72], ![false]⟩

@[reducible] def k0_t1_loop : Scf.Loop 32 :=
  let c0_i32_322 : BitVec 32 := 0#32
  let c16_i32 : BitVec 32 := 16#32
  let v815 : BitVec 32 := Scalar.addi c0_i32_322 c16_i32
  let c1_i32 : BitVec 32 := 1#32
  ⟨c0_i32_322, v815, c1_i32⟩
def k0_mult1 (k0_t1 : Fin k0_t1_loop.trips) : BitVec 32 :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  v817
def k0_off1 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v906 : Index := Scalar.indexCast v818
  let c0_354 : Index := 0#32
  ![v906.toNat, 0]
def k0_off2 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v951 : Index := Scalar.indexCast v818
  let c0_365 : Index := 0#32
  ![v951.toNat, 0]
def k0_off3 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v974 : Index := Scalar.indexCast v818
  let c0_371 : Index := 0#32
  ![v974.toNat, 0]
def k0_off4 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1046 : Index := Scalar.indexCast v818
  let c128_391 : Index := 128#32
  ![v1046.toNat, 128]
def k0_off5 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1050 : Index := Scalar.indexCast v818
  let c128_392 : Index := 128#32
  ![v1050.toNat, 128]
def k0_off6 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1118 : Index := Scalar.indexCast v818
  let c256 : Index := 256#32
  ![v1118.toNat, 256]
def k0_off7 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1190 : Index := Scalar.indexCast v818
  let c384 : Index := 384#32
  ![v1190.toNat, 384]
def k0_off8 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1194 : Index := Scalar.indexCast v818
  let c256_428 : Index := 256#32
  ![v1194.toNat, 256]
def k0_off9 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1262 : Index := Scalar.indexCast v818
  let c512 : Index := 512#32
  ![v1262.toNat, 512]
def k0_off10 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1334 : Index := Scalar.indexCast v818
  let c640 : Index := 640#32
  ![v1334.toNat, 640]
def k0_off11 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1338 : Index := Scalar.indexCast v818
  let c384_465 : Index := 384#32
  ![v1338.toNat, 384]
def k0_off12 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1406 : Index := Scalar.indexCast v818
  let c768 : Index := 768#32
  ![v1406.toNat, 768]
def k0_off13 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1478 : Index := Scalar.indexCast v818
  let c896 : Index := 896#32
  ![v1478.toNat, 896]
def k0_off14 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1482 : Index := Scalar.indexCast v818
  let c512_501 : Index := 512#32
  ![v1482.toNat, 512]
def k0_off15 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1550 : Index := Scalar.indexCast v818
  let c1024 : Index := 1024#32
  ![v1550.toNat, 1024]
def k0_off16 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1622 : Index := Scalar.indexCast v818
  let c1152 : Index := 1152#32
  ![v1622.toNat, 1152]
def k0_off17 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1626 : Index := Scalar.indexCast v818
  let c640_538 : Index := 640#32
  ![v1626.toNat, 640]
def k0_off18 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1694 : Index := Scalar.indexCast v818
  let c1280 : Index := 1280#32
  ![v1694.toNat, 1280]
def k0_off19 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1766 : Index := Scalar.indexCast v818
  let c1408 : Index := 1408#32
  ![v1766.toNat, 1408]
def k0_off20 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1770 : Index := Scalar.indexCast v818
  let c768_574 : Index := 768#32
  ![v1770.toNat, 768]
def k0_off21 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1838 : Index := Scalar.indexCast v818
  let c1536 : Index := 1536#32
  ![v1838.toNat, 1536]
def k0_off22 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1910 : Index := Scalar.indexCast v818
  let c1664 : Index := 1664#32
  ![v1910.toNat, 1664]
def k0_off23 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1914 : Index := Scalar.indexCast v818
  let c896_610 : Index := 896#32
  ![v1914.toNat, 896]
def k0_off24 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v1982 : Index := Scalar.indexCast v818
  let c1792 : Index := 1792#32
  ![v1982.toNat, 1792]
def k0_off25 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2054 : Index := Scalar.indexCast v818
  let c1920 : Index := 1920#32
  ![v2054.toNat, 1920]
def k0_off26 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2058 : Index := Scalar.indexCast v818
  let c1024_646 : Index := 1024#32
  ![v2058.toNat, 1024]
def k0_off27 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2126 : Index := Scalar.indexCast v818
  let c2048 : Index := 2048#32
  ![v2126.toNat, 2048]
def k0_off28 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2198 : Index := Scalar.indexCast v818
  let c2176 : Index := 2176#32
  ![v2198.toNat, 2176]
def k0_off29 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2202 : Index := Scalar.indexCast v818
  let c1152_683 : Index := 1152#32
  ![v2202.toNat, 1152]
def k0_off30 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2270 : Index := Scalar.indexCast v818
  let c2304 : Index := 2304#32
  ![v2270.toNat, 2304]
def k0_off31 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2342 : Index := Scalar.indexCast v818
  let c2432 : Index := 2432#32
  ![v2342.toNat, 2432]
def k0_off32 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2346 : Index := Scalar.indexCast v818
  let c1280_719 : Index := 1280#32
  ![v2346.toNat, 1280]
def k0_off33 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2414 : Index := Scalar.indexCast v818
  let c2560 : Index := 2560#32
  ![v2414.toNat, 2560]
def k0_off34 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2486 : Index := Scalar.indexCast v818
  let c2688 : Index := 2688#32
  ![v2486.toNat, 2688]
def k0_off35 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2490 : Index := Scalar.indexCast v818
  let c1408_755 : Index := 1408#32
  ![v2490.toNat, 1408]
def k0_off36 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2558 : Index := Scalar.indexCast v818
  let c2816 : Index := 2816#32
  ![v2558.toNat, 2816]
def k0_off37 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2630 : Index := Scalar.indexCast v818
  let c2944 : Index := 2944#32
  ![v2630.toNat, 2944]
def k0_off38 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2634 : Index := Scalar.indexCast v818
  let c1536_791 : Index := 1536#32
  ![v2634.toNat, 1536]
def k0_off39 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2702 : Index := Scalar.indexCast v818
  let c3072 : Index := 3072#32
  ![v2702.toNat, 3072]
def k0_off40 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2774 : Index := Scalar.indexCast v818
  let c3200 : Index := 3200#32
  ![v2774.toNat, 3200]
def k0_off41 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2778 : Index := Scalar.indexCast v818
  let c1664_827 : Index := 1664#32
  ![v2778.toNat, 1664]
def k0_off42 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2846 : Index := Scalar.indexCast v818
  let c3328 : Index := 3328#32
  ![v2846.toNat, 3328]
def k0_off43 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2918 : Index := Scalar.indexCast v818
  let c3456 : Index := 3456#32
  ![v2918.toNat, 3456]
def k0_off44 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2922 : Index := Scalar.indexCast v818
  let c1792_863 : Index := 1792#32
  ![v2922.toNat, 1792]
def k0_off45 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v2990 : Index := Scalar.indexCast v818
  let c3584 : Index := 3584#32
  ![v2990.toNat, 3584]
def k0_off46 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3062 : Index := Scalar.indexCast v818
  let c3712 : Index := 3712#32
  ![v3062.toNat, 3712]
def k0_off47 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3066 : Index := Scalar.indexCast v818
  let c1920_899 : Index := 1920#32
  ![v3066.toNat, 1920]
def k0_off48 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3134 : Index := Scalar.indexCast v818
  let c3840 : Index := 3840#32
  ![v3134.toNat, 3840]
def k0_off49 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3206 : Index := Scalar.indexCast v818
  let c3968 : Index := 3968#32
  ![v3206.toNat, 3968]
def k0_off50 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3210 : Index := Scalar.indexCast v818
  let c2048_935 : Index := 2048#32
  ![v3210.toNat, 2048]
def k0_off51 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3255 : Index := Scalar.indexCast v818
  let c128_948 : Index := 128#32
  ![v3255.toNat, 128]
def k0_off52 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3278 : Index := Scalar.indexCast v818
  let c4096 : Index := 4096#32
  ![v3278.toNat, 4096]
def k0_off53 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3350 : Index := Scalar.indexCast v818
  let c4224 : Index := 4224#32
  ![v3350.toNat, 4224]
def k0_off54 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3354 : Index := Scalar.indexCast v818
  let c2176_973 : Index := 2176#32
  ![v3354.toNat, 2176]
def k0_off55 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3422 : Index := Scalar.indexCast v818
  let c4352 : Index := 4352#32
  ![v3422.toNat, 4352]
def k0_off56 (k0_t1 : Fin k0_t1_loop.trips) : Fin 2 → Nat :=
  let c0_i32_322 : BitVec 32 := 0#32
  let c1_i32 : BitVec 32 := 1#32
  let arg12 : BitVec 32 := Scf.iv c0_i32_322 c1_i32 k0_t1
  let c32_i32 : BitVec 32 := 32#32
  let v817 : BitVec 32 := Scalar.muli arg12 c32_i32
  let v818 : BitVec 32 := v817
  let v3494 : Index := Scalar.indexCast v818
  let c4480 : Index := 4480#32
  ![v3494.toNat, 4480]
@[reducible] def k0_t2_loop : Scf.Loop 32 :=
  let c0_i32_324 : BitVec 32 := 0#32
  let c6_i32_325 : BitVec 32 := 6#32
  let v816 : BitVec 32 := Scalar.addi c0_i32_324 c6_i32_325
  let c1_i32_326 : BitVec 32 := 1#32
  ⟨c0_i32_324, v816, c1_i32_326⟩
def k0_mult2 (k0_t2 : Fin k0_t2_loop.trips) : BitVec 32 :=
  let c0_i32_324 : BitVec 32 := 0#32
  let c1_i32_326 : BitVec 32 := 1#32
  let arg12 : BitVec 32 := Scf.iv c0_i32_324 c1_i32_326 k0_t2
  let c512_i32 : BitVec 32 := 512#32
  let v817 : BitVec 32 := Scalar.muli arg12 c512_i32
  v817
def k0_off57 (k0_t2 : Fin k0_t2_loop.trips) : Fin 2 → Nat :=
  let c0_i32_324 : BitVec 32 := 0#32
  let c1_i32_326 : BitVec 32 := 1#32
  let arg12 : BitVec 32 := Scf.iv c0_i32_324 c1_i32_326 k0_t2
  let c512_i32 : BitVec 32 := 512#32
  let v817 : BitVec 32 := Scalar.muli arg12 c512_i32
  let v818 : BitVec 32 := v817
  let v819 : Index := Scalar.indexCast v818
  let c0_328 : Index := 0#32
  ![v819.toNat, 0]
def k0_off58 (k0_t2 : Fin k0_t2_loop.trips) : Fin 2 → Nat :=
  let c0_i32_324 : BitVec 32 := 0#32
  let c1_i32_326 : BitVec 32 := 1#32
  let arg12 : BitVec 32 := Scf.iv c0_i32_324 c1_i32_326 k0_t2
  let c512_i32 : BitVec 32 := 512#32
  let v817 : BitVec 32 := Scalar.muli arg12 c512_i32
  let v818 : BitVec 32 := v817
  let v825 : Index := Scalar.indexCast v818
  let c0_331 : Index := 0#32
  ![v825.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S18x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x512 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x12x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3072x1x4608 : Shape := ⟨3, ![3072, 1, 4608]⟩
abbrev S36864x2304 : Shape := ⟨2, ![36864, 2304]⟩
abbrev S36864x18 : Shape := ⟨2, ![36864, 18]⟩
abbrev S36864x18x12 : Shape := ⟨3, ![36864, 18, 12]⟩
abbrev S3072x36864 : Shape := ⟨2, ![3072, 36864]⟩
abbrev S36864x18x4 : Shape := ⟨3, ![36864, 18, 4]⟩
abbrev S36864x18x8 : Shape := ⟨3, ![36864, 18, 8]⟩
abbrev S36864x18x1 : Shape := ⟨3, ![36864, 18, 1]⟩
abbrev S36864x72x2 : Shape := ⟨3, ![36864, 72, 2]⟩
abbrev S36864x72x32 : Shape := ⟨3, ![36864, 72, 32]⟩
abbrev S36864x72x1 : Shape := ⟨3, ![36864, 72, 1]⟩
abbrev S3072x72x2x32 : Shape := ⟨4, ![3072, 72, 2, 32]⟩
abbrev S3072x72x1x32 : Shape := ⟨4, ![3072, 72, 1, 32]⟩
abbrev S3072x72x32 : Shape := ⟨3, ![3072, 72, 32]⟩

abbrev nBuf : Space → Nat
  | .hbm => 6
  | .vmem => 6
  | .smem => 0
  | _ => 0

abbrev bufTy : (tb : Table) → Fin (tcTables nBuf tb) → BufTy
  | .hbm, ⟨0, _⟩ => ⟨S3072x1x4608, .bf16⟩
  | .hbm, ⟨1, _⟩ => ⟨S36864x2304, .i8⟩
  | .hbm, ⟨2, _⟩ => ⟨S36864x18, .f16⟩
  | .hbm, ⟨3, _⟩ => ⟨S36864x18, .f16⟩
  | .hbm, ⟨4, _⟩ => ⟨S36864x18x12, .i8⟩
  | .hbm, ⟨5, _⟩ => ⟨S3072x36864, .bf16⟩
  | .local _ .vmem, ⟨0, _⟩ => ⟨S3072x1x4608, .bf16⟩
  | .local _ .vmem, ⟨1, _⟩ => ⟨S36864x2304, .i8⟩
  | .local _ .vmem, ⟨2, _⟩ => ⟨S36864x18, .f16⟩
  | .local _ .vmem, ⟨3, _⟩ => ⟨S36864x18, .f16⟩
  | .local _ .vmem, ⟨4, _⟩ => ⟨S36864x18x12, .i8⟩
  | .local _ .vmem, ⟨5, _⟩ => ⟨S3072x36864, .bf16⟩
  | _, _ => ⟨S3072x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x1x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36864x2304 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36864x18 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36864x18 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36864x18x12 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x36864 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
/- The frame of the kernel at any float instance: it terminates, its arguments unchanged and every semaphore at zero. Nothing
   is said of what it leaves in the output or in the scratch. -/
module

public import proofs.«01_k».proof.Proof.Gen.Kernel.Frame.Runs
public import Idealize.ShloMosaic.Lib.Claim

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at one grid point, the first or a later one: from the inputs' buffers at any contents and the other buffers at
    anything, it runs to its end and leaves the inputs' buffers as they were. -/
theorem body (c : Dev nD) (i : grid0.Coords) (arg1 : Memref sig .tc .vmem S3072x4608 .bf16) (harg1 : arg1.IsWhole) (arg2 : Memref sig .tc .vmem S512x2304 .i8) (harg2 : arg2.IsWhole) (arg3 : Memref sig .tc .vmem S18x512 .f16) (harg3 : arg3.IsWhole) (arg4 : Memref sig .tc .vmem S18x512 .f16) (harg4 : arg4.IsWhole) (arg5 : Memref sig .tc .vmem S18x12x512 .i8) (harg5 : arg5.IsWhole) (arg6 : Memref sig .tc .vmem S3072x512 .bf16) (harg6 : arg6.IsWhole) (arg7 : Memref sig .tc .vmem S512x4608 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S512x256 .f32) (harg10 : arg10.IsWhole) (arg11 : Memref sig .tc .vmem S512x256 .f32) (harg11 : arg11.IsWhole)
    (x0 : Vec F S3072x4608 .bf16) (x1 : Vec F S512x2304 .i8) (x2 : Vec F S18x512 .f16) (x3 : Vec F S18x512 .f16) (x4 : Vec F S18x12x512 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_q4k_linear i arg1 harg1 arg2 harg2 arg3 harg3 arg4 harg4 arg5 harg5 arg6 harg6 arg7 harg7 arg8 harg8 arg9 harg9 arg10 harg10 arg11 harg11) K := by
  simp only [cc0_q4k_linear_eq_skeleton]; unfold cc0_q4k_linear_skel
  simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4
  by_cases hc0 : cond0_0 i
  all_goals
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- The window of the output, the one of which nothing is said. -/
def forgets0 : Fin 6 → Bool := fun w => w.val == 5

/-- The proof data of the pipeline: after point `t` every input's buffer holds its block; nothing is said of the output's
    buffer, nor of the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The body's resources at point `t` before it runs, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and after. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4,
    show (dats m 0 c).Φ t.succ = Pipeline.ΦA spec0 c from rfl, show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (body c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run, with every semaphore at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- THE FRAME of the kernel: it terminates, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, z⟩ => ⟨fun c =>
    ⟨((h c).2 main_arg0 (Pipeline.mem_restRefs_of main_arg0 (by decide) (by decide))).trans (V_main_arg0 m c),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, z⟩)
    (run_main_quiescent m ρ)

end Cert.KernelFrame

end
-- ==== Proof.Ops.lean ====
/- The operations one round of the kernel's body performs, written once with the constants that tell the rounds apart as
   parameters: the scale and offset rows of one super-block, and one 32×128 chunk of dequantised weights. The body's
   generated payloads are these functions at each round's constants (Proof/Trip.lean, Proof/Run.lean). -/
module

public import proofs.«01_k».proof.Proof.Gen.KernelIdeal.Skeleton

@[expose] public section

noncomputable section

namespace Cert.Proof

open Idealize.ShloMosaic Idealize.SL.Sem Cert.KernelIdeal Cert.KernelIdeal.Gen

variable {F : FTy → Type} [FloatOps F]

/-- The lane index of the byte a lane of a chunk reads: 32 · (lane / 64) + lane % 32. -/
def byteIdx : IVec S8x128 32 := k0_pay7 (iota .tc S8x128 32 [1] iota_S8x128_d1_w32) 64#32 k0_pay6

/-- The amount a lane shifts its byte by: 4 · ((lane / 32) % 2). -/
def shiftIdx : IVec S8x128 32 := k0_pay8 k0_pay5

/-- The lane's group within a chunk, lane / 32, from the chunk's first group `first` on. -/
def groupIdx (first : BitVec 32) : IVec S32x128 32 :=
  have v905 : IVec S32x128 32 := iota .tc S32x128 32 [1] iota_S32x128_d1_w32
  have v925 : IVec S32x128 32 := broadcast S32x128 32#32
  have v926 : IVec S32x128 32 := divsi v905 v925
  have v927 : IVec S32x128 32 := broadcast S32x128 0#32
  have v928 : IVec S32x128 1 := cmpi .sgt v905 v927
  have v929 : IVec S32x128 32 := extui 32 v928 natLt_1_32
  have v930 : IVec S32x128 32 := broadcast S32x128 0#32
  have v931 : IVec S32x128 1 := cmpi .slt v905 v930
  have v932 : IVec S32x128 32 := extui 32 v931 natLt_1_32
  have v933 : IVec S32x128 32 := subi v929 v932
  let v934 : BitVec 1 := Scalar.cmpi .sgt 32#32 0#32
  let v935 : BitVec 32 := Scalar.extui v934
  let v936 : BitVec 1 := Scalar.cmpi .slt 32#32 0#32
  let v937 : BitVec 32 := Scalar.extui v936
  let v938 : BitVec 32 := Scalar.subi v935 v937
  have v939 : IVec S32x128 32 := broadcast S32x128 v938
  have v940 : IVec S32x128 1 := cmpi .ne v933 v939
  have v941 : IVec S32x128 32 := broadcast S32x128 32#32
  have v942 : IVec S32x128 32 := remsi v905 v941
  have v943 : IVec S32x128 32 := broadcast S32x128 0#32
  have v944 : IVec S32x128 1 := cmpi .ne v942 v943
  have v945 : IVec S32x128 1 := andi v940 v944
  have v946 : IVec S32x128 32 := broadcast S32x128 1#32
  have v947 : IVec S32x128 32 := subi v926 v946
  have v948 : IVec S32x128 32 := select v945 v947 v926
  have v949 : IVec S32x128 32 := broadcast S32x128 first
  addi v949 v948

/-- The 4-bit quantities of a chunk, from the 32×128 bytes it is packed in; `off` is 0 for the chunk in the low 64 lanes
    of those bytes and 64 for the one in the high 64 lanes. -/
def nibbles (off : BitVec 32) (packed : Vec F S32x128 .i8) : IVec S32x128 8 :=
  have v908 : IVec S8x128 32 := bitcast S8x128 32 packed bitcasts_S32x128_w8_S8x128_w32
  have v909 : IVec S8x128 32 := broadcast S8x128 off
  have v910 : IVec S8x128 32 := addi byteIdx v909
  have v911 : IVec S8x128 32 := broadcast S8x128 0#32
  have v912 : IVec S8x128 1 := cmpi .slt v910 v911
  have v913 : IVec S8x128 32 := broadcast S8x128 128#32
  have v914 : IVec S8x128 32 := addi v910 v913
  have v915 : IVec S8x128 32 := select v912 v914 v910
  have v916 : IVec S8x128x1 32 := shapeCast S8x128x1 v915 shapeCasts_S8x128_S8x128x1
  have v917 : IVec S8x128 32 := shapeCast S8x128 v916 shapeCasts_S8x128x1_S8x128
  have v918 : IVec S8x128 32 := dynamicGather 1 v908 v917
  have v919 : IVec S8x128 32 := shrui v918 shiftIdx
  have v920 : IVec S8x128 32 := broadcast S8x128 252645135#32
  have v921 : IVec S8x128 32 := andi v919 v920
  bitcast S32x128 8 v921 bitcasts_S8x128_w32_S32x128_w8

/-- A table's 32×128 tile gathered along the lanes at each lane's group. -/
def pick (first : BitVec 32) (tab : Vec F S32x128 .f32) : FVec F S32x128 .f32 :=
  have v953 : IVec S32x128 32 := broadcast S32x128 0#32
  have v954 : IVec S32x128 1 := cmpi .slt (groupIdx first) v953
  have v955 : IVec S32x128 32 := broadcast S32x128 128#32
  have v956 : IVec S32x128 32 := addi (groupIdx first) v955
  have v957 : IVec S32x128 32 := select v954 v956 (groupIdx first)
  have v958 : IVec S32x128x1 32 := shapeCast S32x128x1 v957 shapeCasts_S32x128_S32x128x1
  have v959 : IVec S32x128 32 := shapeCast S32x128 v958 shapeCasts_S32x128x1_S32x128
  dynamicGather 1 tab v959

/-- One 32×128 chunk of weights: quantity · scale − offset, rounded to bf16. -/
def chunk (off first : BitVec 32) (packed : Vec F S32x128 .i8) (s o : Vec F S32x128 .f32) : FVec F S32x128 .bf16 :=
  have v923 : IVec S32x128 32 := extui 32 (nibbles (F := F) off packed) natLt_8_32
  have v924 : FVec F S32x128 .f32 := sitofp .f32 v923
  have v971 : FVec F S32x128 .f32 := mulf v924 (pick first s)
  have v972 : FVec F S32x128 .f32 := subf v971 (pick first o)
  have v973 : FVec F S32x128 .bf16 := truncf .bf16 v972 bitsLt_bf16_f32
  shapeCast S32x128 v973 shapeCasts_S32x128_S32x128

/-- The eight scales of one super-block of every column: the super-block's scale times the 6-bit scales unpacked from its
    twelve bytes. -/
def scaleRows (v3 : Vec F S1x12x512 .i8) (v29 : Vec F S1x512 .f16) : FVec F S8x512 .f32 := k0_pay195 v3 v29

/-- The eight offsets of one super-block of every column: the super-block's offset scale times the 6-bit minima unpacked
    from its twelve bytes. -/
def offsetRows (v3 : Vec F S1x12x512 .i8) (v38 : Vec F S1x512 .f16) : FVec F S8x512 .f32 := k0_pay196 (k0_pay194 v3) v38

end Cert.Proof

end
-- ==== Proof.Words.lean ====
/- What the integer half of one dequantisation round computes: which byte each lane of a 32×128 chunk reads, which half of
   the byte it keeps, and which column of a scale table it picks. -/
module

public import proofs.«01_k».proof.Proof.Ops
public import Idealize.ShloMosaic.Lib.BitcastFour
public import Idealize.ShloMosaic.Lib.ValueIdx

@[expose] public section

noncomputable section

namespace Cert.Proof

open Idealize.ShloMosaic Idealize.SL.Sem Cert.KernelIdeal Cert.KernelIdeal.Gen Idealize.ShloMosaic.ValueIdx

variable {F : FTy → Type} [FloatOps F]

/-- A lane's gather index before the wrap-around of a negative one is undone, at the chunk's half `h`. -/
def byteWord (h : Fin 2) : IVec S8x128 32 := addi byteIdx (broadcast S8x128 (BitVec.ofNat 32 (64 * h.val)))

set_option maxRecDepth 100000 in
/-- The lane of the byte that lane `l` reads, the wrap-around of a negative index undone. -/
theorem byteWord_lane : ∀ (h : Fin 2) (l : Fin 128),
    (select (cmpi .slt (byteWord h) (broadcast S8x128 0#32)) (addi (byteWord h) (broadcast S8x128 128#32)) (byteWord h)
      (ix2 (0 : Fin 8) l)).toNat % 128 = 64 * h.val + l.val / 64 * 32 + l.val % 32 := by decide +kernel

set_option maxRecDepth 100000 in
/-- The amount lane `l` shifts by. -/
theorem shiftIdx_lane : ∀ l : Fin 128, shiftIdx (ix2 (0 : Fin 8) l) = BitVec.ofNat 32 (4 * (l.val / 32 % 2)) := by
  decide +kernel

set_option maxRecDepth 100000 in
/-- The table column lane `l` picks, the wrap-around of a negative index undone. -/
theorem groupIdx_lane : ∀ (f : Fin 32) (l : Fin 128),
    (select (cmpi .slt (groupIdx (BitVec.ofNat 32 (4 * f.val))) (broadcast S32x128 0#32))
      (addi (groupIdx (BitVec.ofNat 32 (4 * f.val))) (broadcast S32x128 128#32)) (groupIdx (BitVec.ofNat 32 (4 * f.val)))
      (ix2 (0 : Fin 32) l)).toNat % 128 = 4 * f.val + l.val / 32 := by decide +kernel

/-- Bit `i` of the mask that keeps the low half of each byte of a word. -/
theorem mask_getLsbD : ∀ i : Fin 32, (252645135#32).getLsbD i.val = decide (i.val % 8 < 4) := by decide

/-- Bit `i` of fifteen. -/
theorem fifteen_getLsbD : ∀ i : Fin 32, (15#32).getLsbD i.val = decide (i.val < 4) := by decide

end Cert.Proof
end
-- ==== Proof.Spec.lean ====
/- The mathematics of the layer, free of either program: the 6-bit scales and minima unpacked from a super-block's twelve
   bytes, the 4-bit quantities of a packed byte, one column's dequantised weights, and the product of a row of inputs with
   a column of weights. Both programs are shown to compute these functions. -/
module

public import Idealize.ShloMosaic.PureOps.Ideal
public import Idealize.ShloMosaic.Lib.ValueIdxCore

@[expose] public section

noncomputable section

namespace Cert.Proof

open Idealize.ShloMosaic

/-- A 32-bit word as a number. -/
def num (w : BitVec 32) : EReal := FloatOps.sitofp (F := Ideal) FTy.f32 w

/-- The `s`-th 6-bit scale of a super-block, from its twelve bytes: the low six bits of byte `s` for the first four; for
    the others the low half of byte `s + 4` with the two top bits of byte `s − 4` above it. -/
def scaleWord (u : Fin 12 → BitVec 8) (s : Fin 8) : BitVec 32 :=
  if h : s.val < 4 then IntOp.andi (BitVec.setWidth 32 (u ⟨s.val, by omega⟩)) 63#32
  else IntOp.ori (IntOp.andi (BitVec.setWidth 32 (u ⟨8 + (s.val - 4), by omega⟩)) 15#32)
    (IntOp.shli .vector (IntOp.shrsi .vector (BitVec.setWidth 32 (u ⟨s.val - 4, by omega⟩)) 6#32) 4#32)

/-- The `s`-th 6-bit minimum of a super-block, from its twelve bytes: the low six bits of byte `s + 4` for the first four;
    for the others the high half of byte `s + 4` with the two top bits of byte `s` above it. -/
def minWord (u : Fin 12 → BitVec 8) (s : Fin 8) : BitVec 32 :=
  if h : s.val < 4 then IntOp.andi (BitVec.setWidth 32 (u ⟨4 + s.val, by omega⟩)) 63#32
  else IntOp.ori (IntOp.shrsi .vector (BitVec.setWidth 32 (u ⟨8 + (s.val - 4), by omega⟩)) 4#32)
    (IntOp.shli .vector (IntOp.shrsi .vector (BitVec.setWidth 32 (u ⟨4 + (s.val - 4), by omega⟩)) 6#32) 4#32)

/-- The low (`h = 0`) or the high half of a byte. -/
def nibWord (b : BitVec 8) (h : Fin 2) : BitVec 32 :=
  if h = 0 then IntOp.andi (BitVec.setWidth 32 b) 15#32 else IntOp.shrsi .vector (BitVec.setWidth 32 b) 4#32

/-- The scale of group `g` (32 inputs) of one column: its super-block's scale times its own 6-bit scale. -/
def groupScale (d : Fin 18 → EReal) (u : Fin 18 → Fin 12 → BitVec 8) (g : Fin 144) : EReal :=
  d ⟨g.val / 8, by omega⟩ * num (scaleWord (u ⟨g.val / 8, by omega⟩) ⟨g.val % 8, by omega⟩)

/-- The offset of group `g` of one column: its super-block's offset scale times its own 6-bit minimum. -/
def groupOffset (dm : Fin 18 → EReal) (u : Fin 18 → Fin 12 → BitVec 8) (g : Fin 144) : EReal :=
  dm ⟨g.val / 8, by omega⟩ * num (minWord (u ⟨g.val / 8, by omega⟩) ⟨g.val % 8, by omega⟩)

/-- The group of input `k`. -/
def groupOf (k : Fin 4608) : Fin 144 := ⟨k.val / 32, by omega⟩

/-- The byte that holds input `k`'s quantity: two neighbouring groups of 32 share 32 bytes, -/
def byteOf (k : Fin 4608) : Fin 2304 := ⟨k.val / 64 * 32 + k.val % 32, by omega⟩

/-- the even group in the low halves and the odd one in the high halves. -/
def halfOf (k : Fin 4608) : Fin 2 := ⟨k.val / 32 % 2, by omega⟩

/-- One column's dequantised weight at input `k`: quantity · scale − offset. -/
def weight (q : Fin 2304 → BitVec 8) (s o : Fin 144 → EReal) (k : Fin 4608) : EReal :=
  num (nibWord (q (byteOf k)) (halfOf k)) * s (groupOf k) - o (groupOf k)

/-- A row of inputs times one column's weights. -/
def product (x : Fin 4608 → EReal) (q : Fin 2304 → BitVec 8) (d dm : Fin 18 → EReal) (u : Fin 18 → Fin 12 → BitVec 8) : EReal :=
  ∑ k : Fin 4608, x k * weight q (groupScale d u) (groupOffset dm u) k

end Cert.Proof

end
-- ==== Proof.Chunk.lean ====
/- One chunk of dequantised weights, read at an index: the word operations pick the chunk's 4-bit quantities out of the
   packed bytes, and the gathers pick each lane's scale and offset. -/
module

public import proofs.«01_k».proof.Proof.Words
public import proofs.«01_k».proof.Proof.Spec
public import Idealize.ShloMosaic.Lib.BitcastFour
public import Idealize.ShloMosaic.Lib.Pointwise
public import Idealize.ShloMosaic.Lib.Pipeline.Value

@[expose] public section

noncomputable section

namespace Cert.Proof

open Idealize.ShloMosaic Cert.KernelIdeal Cert.KernelIdeal.Gen

/-- The 32-bit word `h` half-selects from a byte, at a bit. -/
theorem nibWord_getLsbD (b : BitVec 8) (h : Fin 2) (i : Nat) (hi : i < 32) :
    (nibWord b h).getLsbD i = (decide (i < 4) && b.getLsbD (i + 4 * h.val)) := by
  unfold nibWord
  match h with
  | 0 =>
    rw [if_pos rfl]
    simp only [IntOp.andi, BitVec.getLsbD_and, BitVec.getLsbD_setWidth, fifteen_getLsbD ⟨i, hi⟩]
    by_cases h4 : i < 4 <;> simp [h4, hi]
  | 1 =>
    rw [if_neg (by decide)]
    have e : IntOp.shrsi .vector (BitVec.setWidth 32 b) 4#32 = (BitVec.setWidth 32 b).sshiftRight' 4#32 := rfl
    rw [e, show (BitVec.setWidth 32 b).sshiftRight' 4#32 = (BitVec.setWidth 32 b).sshiftRight 4 from rfl, BitVec.getLsbD_sshiftRight]
    have hm : (BitVec.setWidth 32 b).msb = false := by
      rw [BitVec.msb_setWidth]; simp
    simp only [hm, BitVec.getLsbD_setWidth, BitVec.toNat_ofNat]
    by_cases h4 : i < 4
    · simp [h4, hi, Nat.add_comm, show i + 4 < 32 by omega, show ¬ 32 ≤ i by omega]
    · have : b.getLsbD (i + 4) = false := BitVec.getLsbD_of_ge b _ (by omega)
      simp [h4, hi, Nat.add_comm, this]

/-- The gather index of a byte's lane: no step of its computation reads the row. -/
theorem byteLane (h : Fin 2) (a : Fin 8) (l : Fin 128) :
    (select (cmpi .slt (byteWord h) (broadcast S8x128 0#32)) (addi (byteWord h) (broadcast S8x128 128#32)) (byteWord h)
      (ix2 a l)).toNat % 128 = 64 * h.val + l.val / 64 * 32 + l.val % 32 :=
  (show _ = _ from rfl).trans (byteWord_lane h l)

/-- … and the shift's amount likewise. -/
theorem shiftLane (a : Fin 8) (l : Fin 128) : shiftIdx (ix2 a l) = BitVec.ofNat 32 (4 * (l.val / 32 % 2)) :=
  (show _ = _ from rfl).trans (shiftIdx_lane l)

/-- … and the gather index of a group's column. -/
theorem groupLane (f : Fin 32) (p : Fin 32) (l : Fin 128) :
    (select (cmpi .slt (groupIdx (BitVec.ofNat 32 (4 * f.val))) (broadcast S32x128 0#32))
      (addi (groupIdx (BitVec.ofNat 32 (4 * f.val))) (broadcast S32x128 128#32)) (groupIdx (BitVec.ofNat 32 (4 * f.val)))
      (ix2 p l)).toNat % 128 = 4 * f.val + l.val / 32 :=
  (show _ = _ from rfl).trans (groupIdx_lane f l)

/-- The offset a chunk's half adds to its gather indices. -/
def halfOff (h : Fin 2) : BitVec 32 := BitVec.ofNat 32 (64 * h.val)

/-- The words after the gather, the shift and the mask, before they are read as bytes again. -/
def words (h : Fin 2) (packed : IVec S32x128 8) : IVec S8x128 32 :=
  andi (shrui (dynamicGather 1 (bitcast S8x128 32 packed bitcasts_S32x128_w8_S8x128_w32)
    (select (cmpi .slt (byteWord h) (broadcast S8x128 0#32)) (addi (byteWord h) (broadcast S8x128 128#32)) (byteWord h)))
    shiftIdx) (broadcast S8x128 252645135#32)

theorem nibbles_eq (h : Fin 2) (packed : Vec Ideal S32x128 .i8) :
    nibbles (F := Ideal) (halfOff h) packed = bitcast S32x128 8 (words h packed) bitcasts_S8x128_w32_S32x128_w8 := by
  unfold nibbles words
  simp only [shapeCast_shapeCast, shapeCast_self]
  rfl

/-- The lane of the packed byte that lane `l` of a chunk reads, at the chunk's half `h`. -/
def byteLaneOf (h : Fin 2) (l : Fin 128) : Fin 128 := ⟨64 * h.val + l.val / 64 * 32 + l.val % 32, by omega⟩

/-- Which half of the byte lane `l` reads. -/
def nibOf (l : Fin 128) : Fin 2 := ⟨l.val / 32 % 2, by omega⟩

theorem words_getLsbD (h : Fin 2) (packed : IVec S32x128 8) (a : Fin 8) (l : Fin 128) (w : Nat) (hw : w < 32) (p : Fin 32)
    (hp : p.val = 4 * a.val + w / 8) :
    (words h packed (ix2 a l)).getLsbD w
      = (decide (w % 8 < 4) && (packed (ix2 p (byteLaneOf h l))).getLsbD (w % 8 + 4 * (nibOf l).val)) := by
  have eG : dynamicGather 1 (bitcast S8x128 32 packed bitcasts_S32x128_w8_S8x128_w32)
      (select (cmpi .slt (byteWord h) (broadcast S8x128 0#32)) (addi (byteWord h) (broadcast S8x128 128#32)) (byteWord h)) (ix2 a l)
      = bitcast S8x128 32 packed bitcasts_S32x128_w8_S8x128_w32 (ix2 a (byteLaneOf h l)) := by
    rw [dynamicGather_apply]
    congr 1
    funext b
    match b with
    | ⟨0, _⟩ => rfl
    | ⟨1, _⟩ => exact Fin.ext (byteLane h a l)
  have e : words h packed (ix2 a l)
      = IntOp.andi (IntOp.shrui .vector (bitcast S8x128 32 packed bitcasts_S32x128_w8_S8x128_w32 (ix2 a (byteLaneOf h l)))
          (BitVec.ofNat 32 (4 * (nibOf l).val))) 252645135#32 := by
    rw [← eG, ← show shiftIdx (ix2 a l) = BitVec.ofNat 32 (4 * (nibOf l).val) from shiftLane a l]
    rfl
  have hn : (nibOf l).val < 2 := (nibOf l).isLt
  have es : (BitVec.ofNat 32 (4 * (nibOf l).val)).toNat = 4 * (nibOf l).val := by
    rw [BitVec.toNat_ofNat]; omega
  rw [e]
  unfold IntOp.shrui
  rw [if_pos (by rw [es]; omega)]
  simp only [IntOp.andi, BitVec.getLsbD_and, mask_getLsbD ⟨w, hw⟩, BitVec.ushiftRight_eq', BitVec.getLsbD_ushiftRight, es]
  by_cases h4 : w % 8 < 4
  · rw [show decide (w % 8 < 4) = true from by simpa using h4, Bool.and_true, Bool.true_and]
    refine (bitcast_8_32_getLsbD_ix2 packed bitcasts_S32x128_w8_S8x128_w32 a (byteLaneOf h l) (4 * (nibOf l).val + w) (by omega) p (by omega)).trans ?_
    congr 1
    omega
  · simp [h4]

/-- THE QUANTITIES of a chunk: lane `l` of row `p` is the half of the packed byte its place names. -/
theorem nibbles_apply (h : Fin 2) (packed : Vec Ideal S32x128 .i8) (p : Fin 32) (l : Fin 128) :
    BitVec.setWidth 32 (nibbles (F := Ideal) (halfOff h) packed (ix2 p l)) = nibWord (packed (ix2 p (byteLaneOf h l))) (nibOf l) := by
  apply BitVec.eq_of_getLsbD_eq
  intro i hi
  rw [nibWord_getLsbD _ _ i hi, BitVec.getLsbD_setWidth, nibbles_eq]
  by_cases h8 : i < 8
  · have ep : (S32x128.row (ix2 p l) * 8 + i) / 32 = p.val / 4 := by
      show (p.val * 8 + i) / 32 = _; omega
    have eq : (S32x128.row (ix2 p l) * 8 + i) % 32 = 8 * (p.val % 4) + i := by
      show (p.val * 8 + i) % 32 = _; omega
    rw [bitcast_getLsbD _ _ _ i h8 (by decide), eq]
    have hw := words_getLsbD h packed ⟨p.val / 4, by omega⟩ l (8 * (p.val % 4) + i) (by omega) p (by show _ = 4 * (p.val / 4) + _; omega)
    have ei : (8 * (p.val % 4) + i) % 8 = i := by omega
    rw [ei] at hw
    rw [← hw]
    simp only [hi, decide_true, Bool.true_and]
    congr 2
    funext c
    match c with
    | ⟨0, _⟩ => exact Fin.ext ((Shape.Bitcasts.srcIdx_row _ _ _ _ ⟨0, Nat.zero_lt_two⟩ rfl).trans ep)
    | ⟨1, _⟩ => exact Fin.ext (Shape.Bitcasts.srcIdx_other _ _ _ _ ⟨1, Nat.one_lt_two⟩ (by show ¬ 1 + 2 = 2; omega))
  · have : ¬ i < 4 := by omega
    rw [BitVec.getLsbD_of_ge _ i (by omega)]
    simp [this]

/-- The column of the 128-column table tile that lane `l` of a chunk reads, its first group being `4 f`. -/
def pickOf (f : Fin 32) (l : Fin 128) : Fin 128 := ⟨4 * f.val + l.val / 32, by omega⟩

theorem pick_apply (f : Fin 32) (tab : Vec Ideal S32x128 .f32) (p : Fin 32) (l : Fin 128) :
    pick (BitVec.ofNat 32 (4 * f.val)) tab (ix2 p l) = tab (ix2 p (pickOf f l)) := by
  unfold pick
  simp only [shapeCast_shapeCast, shapeCast_self]
  rw [dynamicGather_apply]
  congr 1
  funext b
  match b with
  | ⟨0, _⟩ => rfl
  | ⟨1, _⟩ => exact Fin.ext (groupLane f p l)

/-- ONE CHUNK at an index: quantity · scale − offset. -/
theorem chunk_apply (h : Fin 2) (f : Fin 32) (packed : Vec Ideal S32x128 .i8) (s o : Vec Ideal S32x128 .f32) (p : Fin 32) (l : Fin 128) :
    chunk (halfOff h) (BitVec.ofNat 32 (4 * f.val)) packed s o (ix2 p l)
      = num (nibWord (packed (ix2 p (byteLaneOf h l))) (nibOf l)) * s (ix2 p (pickOf f l)) - o (ix2 p (pickOf f l)) := by
  rw [← nibbles_apply, ← pick_apply f s, ← pick_apply f o]
  unfold chunk
  pointwise
  rfl

end Cert.Proof
end
-- ==== Proof.Lists.lean ====
/- Two lists related element by element. -/
module

public import Mathlib.Data.List.Forall2

@[expose] public section

namespace Cert.Proof

/-- Two lists related element by element: an element of the first has a partner in the second, -/
theorem mem_left {α β : Type*} {R : α → β → Prop} {l : List α} {l' : List β} (h : List.Forall₂ R l l') {x : α} (hx : x ∈ l) :
    ∃ y ∈ l', R x y := by
  induction h with
  | nil => exact absurd hx List.not_mem_nil
  | cons h _ ih =>
    rcases List.mem_cons.1 hx with rfl | hx
    · exact ⟨_, List.mem_cons_self, h⟩
    · obtain ⟨y, hy, r⟩ := ih hx
      exact ⟨y, List.mem_cons_of_mem _ hy, r⟩

/-- and conversely. -/
theorem mem_right {α β : Type*} {R : α → β → Prop} {l : List α} {l' : List β} (h : List.Forall₂ R l l') {y : β} (hy : y ∈ l') :
    ∃ x ∈ l, R x y := mem_left h.flip hy

end Cert.Proof
end
-- ==== Proof.Trip.lean ====
/- The first loop: trip `k` dequantises 32 rows of weights in 36 chunks of 128 columns; after its sixteen trips the weight
   buffer holds one function of the packed bytes and the two tables. -/
module

public import proofs.«01_k».proof.Proof.Chunk
public import proofs.«01_k».proof.Proof.Lists
public import proofs.«01_k».proof.Proof.Gen.KernelIdeal.Loops
public import Idealize.ShloMosaic.Lib.Writes
public import Idealize.ShloMosaic.Lib.Pipeline.FrameBody
public import Idealize.ShloMosaic.Lib.Pipeline.ValueKit.Tiles

@[expose] public section

set_option maxRecDepth 16384

noncomputable section

namespace Cert.Proof

open Idealize.ShloMosaic Idealize.ShloMosaic.TcCoe Idealize.SL.Sem Cert.KernelIdeal Cert.KernelIdeal.Gen

/-- The table column of input `k`: its group. -/
def tabOf (k : Fin 4608) : Fin 256 := ⟨k.val / 32, by omega⟩

/-- The block's weights from its packed bytes and its two tables: row `r`, input `k` is quantity · scale − offset. -/
def weightsOf (q : Vec Ideal S512x2304 .i8) (s o : Vec Ideal S512x256 .f32) : Vec Ideal S512x4608 .bf16 := fun y =>
  num (nibWord (q (ix2 (y 0) (byteOf (y 1)))) (halfOf (y 1))) * s (ix2 (y 0) (tabOf (y 1))) - o (ix2 (y 0) (tabOf (y 1)))

/-- A store belongs to chunk `n` of trip `k` of the array `G`: it writes `G`'s own elements, and covers that chunk. -/
def Fits (G : Vec Ideal S512x4608 .bf16) (k : Fin k0_t1_loop.trips) (n : Fin 36) (p : View.Piece (Elt Ideal) S512x4608 .bf16) : Prop :=
  (∀ x, p.2 x = G (p.1.emb x)) ∧ ∀ y : S512x4608.Idx, (y 0).val / 32 = k.val → (y 1).val / 128 = n.val → y ∈ p.1.set

theorem trips1 : k0_t1_loop.trips = 16 := by decide

/-- One chunk's store writes its own part of the block's weights. -/
theorem fits_chunk {arg2 : Memref sig .tc .vmem S512x2304 .i8} {arg10 arg11 : Memref sig .tc .vmem S512x256 .f32}
    (k : Fin k0_t1_loop.trips) (n : Fin 36) {off offq offt : Fin 2 → Nat}
    (e : off = ![32 * k.val, 128 * n.val]) (eq : offq = ![32 * k.val, 128 * (n.val / 2)]) (et : offt = ![32 * k.val, 128 * (n.val / 32)])
    (inb : ∀ a, off a + S32x128.size a ≤ S512x4608.size a) (inbq : ∀ a, offq a + S32x128.size a ≤ S512x2304.size a)
    (inbt : ∀ a, offt a + S32x128.size a ≤ S512x256.size a)
    (X2 : BufTy.Contents (Elt Ideal) arg2.view.ty) (X10 : BufTy.Contents (Elt Ideal) arg10.view.ty) (X11 : BufTy.Contents (Elt Ideal) arg11.view.ty) :
    Fits (weightsOf (arg2.view.read (Elt Ideal) X2) (arg10.view.read (Elt Ideal) X10) (arg11.view.read (Elt Ideal) X11)) k n
      ⟨Rect.unit (s := S512x4608) off S32x128.size inb,
        chunk (F := Ideal) (halfOff ⟨n.val % 2, by omega⟩) (BitVec.ofNat 32 (4 * (n.val % 32)))
          (View.readAt (Elt Ideal) arg2.view (Rect.unit (s := S512x2304) offq S32x128.size inbq).toLoadRect X2)
          (View.readAt (Elt Ideal) arg10.view (Rect.unit (s := S512x256) offt S32x128.size inbt).toLoadRect X10)
          (View.readAt (Elt Ideal) arg11.view (Rect.unit (s := S512x256) offt S32x128.size inbt).toLoadRect X11)⟩ := by
  subst e eq et
  refine ⟨fun x => ?_, fun y h0 h1 => ?_⟩
  · obtain ⟨p, l, rfl⟩ : ∃ (p : Fin 32) (l : Fin 128), x = ix2 p l := ⟨x 0, x 1, by funext a; match a with | ⟨0, _⟩ => rfl | ⟨1, _⟩ => rfl⟩
    refine (chunk_apply ⟨n.val % 2, by omega⟩ ⟨n.val % 32, by omega⟩ _ _ _ p l).trans ?_
    have key : ∀ y : S512x4608.Idx, (y 0).val = 32 * k.val + p.val → (y 1).val = 128 * n.val + l.val →
        num (nibWord (View.readAt (Elt Ideal) arg2.view (Rect.unit (s := S512x2304) ![32 * k.val, 128 * (n.val / 2)] S32x128.size inbq).toLoadRect X2
            (ix2 p (byteLaneOf ⟨n.val % 2, by omega⟩ l))) (nibOf l))
          * View.readAt (Elt Ideal) arg10.view (Rect.unit (s := S512x256) ![32 * k.val, 128 * (n.val / 32)] S32x128.size inbt).toLoadRect X10
            (ix2 p (pickOf ⟨n.val % 32, by omega⟩ l))
          - View.readAt (Elt Ideal) arg11.view (Rect.unit (s := S512x256) ![32 * k.val, 128 * (n.val / 32)] S32x128.size inbt).toLoadRect X11
            (ix2 p (pickOf ⟨n.val % 32, by omega⟩ l))
        = weightsOf (arg2.view.read (Elt Ideal) X2) (arg10.view.read (Elt Ideal) X10) (arg11.view.read (Elt Ideal) X11) y := by
      intro y e0 e1
      unfold weightsOf
      have hl := l.isLt
      have eh : nibOf l = halfOf (y 1) := Fin.ext (by show l.val / 32 % 2 = (y 1).val / 32 % 2; omega)
      have et : ∀ a : Fin 2, ((ix2 (y 0) (tabOf (y 1)) : S512x256.Idx) a).val
          = (![32 * k.val, 128 * (n.val / 32)] : Fin 2 → Nat) a + ((ix2 p (pickOf ⟨n.val % 32, by omega⟩ l) : S32x128.Idx) a).val := fun a => by
        match a with
        | ⟨0, _⟩ => exact e0
        | ⟨1, _⟩ => show (y 1).val / 32 = 128 * (n.val / 32) + (4 * (n.val % 32) + l.val / 32); omega
      refine congrArg₂ (· - ·) (congrArg₂ (· * ·) (congrArg num (congrArg₂ nibWord ?_ eh)) (View.ld_unit_apply_of _ _ _ inbt _ _ et))
        (View.ld_unit_apply_of _ _ _ inbt _ _ et)
      refine View.ld_unit_apply_of _ _ _ inbq _ _ fun a => ?_
      match a with
      | ⟨0, _⟩ => exact e0
      | ⟨1, _⟩ =>
        show (y 1).val / 64 * 32 + (y 1).val % 32 = 128 * (n.val / 2) + (64 * (n.val % 2) + l.val / 64 * 32 + l.val % 32)
        omega
    exact key _ (by show 32 * k.val + 1 * p.val = _; omega) (by show 128 * n.val + 1 * l.val = _; omega)
  · rw [Rect.mem_set_unit]
    intro a
    match a with
    | ⟨0, _⟩ => exact ⟨by show 32 * k.val ≤ (y 0).val; omega, by show (y 0).val < 32 * k.val + 32; omega⟩
    | ⟨1, _⟩ => exact ⟨by show 128 * n.val ≤ (y 1).val; omega, by show (y 1).val < 128 * n.val + 128; omega⟩

section
variable (c : Dev nD) (i : grid0.Coords) (arg1 : Memref sig .tc .vmem S3072x4608 .bf16) (harg1 : arg1.IsWhole) (arg2 : Memref sig .tc .vmem S512x2304 .i8) (harg2 : arg2.IsWhole) (arg3 : Memref sig .tc .vmem S18x512 .f16) (harg3 : arg3.IsWhole) (arg4 : Memref sig .tc .vmem S18x512 .f16) (harg4 : arg4.IsWhole) (arg5 : Memref sig .tc .vmem S18x12x512 .i8) (harg5 : arg5.IsWhole) (arg6 : Memref sig .tc .vmem S3072x512 .bf16) (harg6 : arg6.IsWhole) (arg7 : Memref sig .tc .vmem S512x4608 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S512x256 .f32) (harg10 : arg10.IsWhole) (arg11 : Memref sig .tc .vmem S512x256 .f32) (harg11 : arg11.IsWhole)

set_option maxHeartbeats 400000 in
/-- TRIP `k`: its 36 stores, last first, are the 36 chunks of its 32 rows. -/
theorem trip_fits (X2 : BufTy.Contents (Elt Ideal) arg2.view.ty) (X10 : BufTy.Contents (Elt Ideal) arg10.view.ty) (X11 : BufTy.Contents (Elt Ideal) arg11.view.ty)
    (k : Fin k0_t1_loop.trips) :
    List.Forall₂ (Fits (weightsOf (arg2.view.read (Elt Ideal) X2) (arg10.view.read (Elt Ideal) X10) (arg11.view.read (Elt Ideal) X11)) k)
      [35, 34, 33, 32, 31, 30, 29, 28, 27, 26, 25, 24, 23, 22, 21, 20, 19, 18, 17, 16, 15, 14, 13, 12, 11, 10, 9, 8, 7, 6, 5, 4, 3, 2, 1, 0]
      (tripL_k0_t1 (F := Ideal) Variants.none c none i arg1 harg1 arg2 harg2 arg3 harg3 arg4 harg4 arg5 harg5 arg6 harg6 arg7 harg7 arg8 harg8 arg9 harg9 arg10 harg10 arg11 harg11 X2 X10 X11 k) := by
  delta tripL_k0_t1 trip_k0_t1
  dsimp only
  exact
    .cons (fits_chunk k 35 (k0_off56_eq k) (k0_off54_eq k) (k0_off51_eq k) (k0_off56_inb k) (k0_off54_inb k) (k0_off51_inb k) X2 X10 X11) <|
    .cons (fits_chunk k 34 (k0_off55_eq k) (k0_off54_eq k) (k0_off51_eq k) (k0_off55_inb k) (k0_off54_inb k) (k0_off51_inb k) X2 X10 X11) <|
    .cons (fits_chunk k 33 (k0_off53_eq k) (k0_off50_eq k) (k0_off51_eq k) (k0_off53_inb k) (k0_off50_inb k) (k0_off51_inb k) X2 X10 X11) <|
    .cons (fits_chunk k 32 (k0_off52_eq k) (k0_off50_eq k) (k0_off51_eq k) (k0_off52_inb k) (k0_off50_inb k) (k0_off51_inb k) X2 X10 X11) <|
    .cons (fits_chunk k 31 (k0_off49_eq k) (k0_off47_eq k) (k0_off2_eq k) (k0_off49_inb k) (k0_off47_inb k) (k0_off2_inb k) X2 X10 X11) <|
    .cons (fits_chunk k 30 (k0_off48_eq k) (k0_off47_eq k) (k0_off2_eq k) (k0_off48_inb k) (k0_off47_inb k) (k0_off2_inb k) X2 X10 X11) <|
    .cons (fits_chunk k 29 (k0_off46_eq k) (k0_off44_eq k) (k0_off2_eq k) (k0_off46_inb k) (k0_off44_inb k) (k0_off2_inb k) X2 X10 X11) <|
    .cons (fits_chunk k 28 (k0_off45_eq k) (k0_off44_eq k) (k0_off2_eq k) (k0_off45_inb k) (k0_off44_inb k) (k0_off2_inb k) X2 X10 X11) <|
    .cons (fits_chunk k 27 (k0_off43_eq k) (k0_off41_eq k) (k0_off2_eq k) (k0_off43_inb k) (k0_off41_inb k) (k0_off2_inb k) X2 X10 X11) <|
    .cons (fits_chunk k 26 (k0_off42_eq k) (k0_off41_eq k) (k0_off2_eq k) (k0_off42_inb k) (k0_off41_inb k) (k0_off2_inb k) X2 X10 X11) <|
    .cons (fits_chunk k 25 (k0_off40_eq k) (k0_off38_eq k) (k0_off2_eq k) (k0_off40_inb k) (k0_off38_inb k) (k0_off2_inb k) X2 X10 X11) <|
    .cons (fits_chunk k 24 (k0_off39_eq k) (k0_off38_eq k) (k0_off2_eq k) (k0_off39_inb k) (k0_off38_inb k) (k0_off2_inb k) X2 X10 X11) <|
    .cons (fits_chunk k 23 (k0_off37_eq k) (k0_off35_eq k) (k0_off2_eq k) (k0_off37_inb k) (k0_off35_inb k) (k0_off2_inb k) X2 X10 X11) <|
    .cons (fits_chunk k 22 (k0_off36_eq k) (k0_off35_eq k) (k0_off2_eq k) (k0_off36_inb k) (k0_off35_inb k) (k0_off2_inb k) X2 X10 X11) <|
    .cons (fits_chunk k 21 (k0_off34_eq k) (k0_off32_eq k) (k0_off2_eq k) (k0_off34_inb k) (k0_off32_inb k) (k0_off2_inb k) X2 X10 X11) <|
    .cons (fits_chunk k 20 (k0_off33_eq k) (k0_off32_eq k) (k0_off2_eq k) (k0_off33_inb k) (k0_off32_inb k) (k0_off2_inb k) X2 X10 X11) <|
    .cons (fits_chunk k 19 (k0_off31_eq k) (k0_off29_eq k) (k0_off2_eq k) (k0_off31_inb k) (k0_off29_inb k) (k0_off2_inb k) X2 X10 X11) <|
    .cons (fits_chunk k 18 (k0_off30_eq k) (k0_off29_eq k) (k0_off2_eq k) (k0_off30_inb k) (k0_off29_inb k) (k0_off2_inb k) X2 X10 X11) <|
    .cons (fits_chunk k 17 (k0_off28_eq k) (k0_off26_eq k) (k0_off2_eq k) (k0_off28_inb k) (k0_off26_inb k) (k0_off2_inb k) X2 X10 X11) <|
    .cons (fits_chunk k 16 (k0_off27_eq k) (k0_off26_eq k) (k0_off2_eq k) (k0_off27_inb k) (k0_off26_inb k) (k0_off2_inb k) X2 X10 X11) <|
    .cons (fits_chunk k 15 (k0_off25_eq k) (k0_off23_eq k) (k0_off2_eq k) (k0_off25_inb k) (k0_off23_inb k) (k0_off2_inb k) X2 X10 X11) <|
    .cons (fits_chunk k 14 (k0_off24_eq k) (k0_off23_eq k) (k0_off2_eq k) (k0_off24_inb k) (k0_off23_inb k) (k0_off2_inb k) X2 X10 X11) <|
    .cons (fits_chunk k 13 (k0_off22_eq k) (k0_off20_eq k) (k0_off2_eq k) (k0_off22_inb k) (k0_off20_inb k) (k0_off2_inb k) X2 X10 X11) <|
    .cons (fits_chunk k 12 (k0_off21_eq k) (k0_off20_eq k) (k0_off2_eq k) (k0_off21_inb k) (k0_off20_inb k) (k0_off2_inb k) X2 X10 X11) <|
    .cons (fits_chunk k 11 (k0_off19_eq k) (k0_off17_eq k) (k0_off2_eq k) (k0_off19_inb k) (k0_off17_inb k) (k0_off2_inb k) X2 X10 X11) <|
    .cons (fits_chunk k 10 (k0_off18_eq k) (k0_off17_eq k) (k0_off2_eq k) (k0_off18_inb k) (k0_off17_inb k) (k0_off2_inb k) X2 X10 X11) <|
    .cons (fits_chunk k 9 (k0_off16_eq k) (k0_off14_eq k) (k0_off2_eq k) (k0_off16_inb k) (k0_off14_inb k) (k0_off2_inb k) X2 X10 X11) <|
    .cons (fits_chunk k 8 (k0_off15_eq k) (k0_off14_eq k) (k0_off2_eq k) (k0_off15_inb k) (k0_off14_inb k) (k0_off2_inb k) X2 X10 X11) <|
    .cons (fits_chunk k 7 (k0_off13_eq k) (k0_off11_eq k) (k0_off2_eq k) (k0_off13_inb k) (k0_off11_inb k) (k0_off2_inb k) X2 X10 X11) <|
    .cons (fits_chunk k 6 (k0_off12_eq k) (k0_off11_eq k) (k0_off2_eq k) (k0_off12_inb k) (k0_off11_inb k) (k0_off2_inb k) X2 X10 X11) <|
    .cons (fits_chunk k 5 (k0_off10_eq k) (k0_off8_eq k) (k0_off2_eq k) (k0_off10_inb k) (k0_off8_inb k) (k0_off2_inb k) X2 X10 X11) <|
    .cons (fits_chunk k 4 (k0_off9_eq k) (k0_off8_eq k) (k0_off2_eq k) (k0_off9_inb k) (k0_off8_inb k) (k0_off2_inb k) X2 X10 X11) <|
    .cons (fits_chunk k 3 (k0_off7_eq k) (k0_off5_eq k) (k0_off2_eq k) (k0_off7_inb k) (k0_off5_inb k) (k0_off2_inb k) X2 X10 X11) <|
    .cons (fits_chunk k 2 (k0_off6_eq k) (k0_off5_eq k) (k0_off2_eq k) (k0_off6_inb k) (k0_off5_inb k) (k0_off2_inb k) X2 X10 X11) <|
    .cons (fits_chunk k 1 (k0_off4_eq k) (k0_off1_eq k) (k0_off2_eq k) (k0_off4_inb k) (k0_off1_inb k) (k0_off2_inb k) X2 X10 X11) <|
    .cons (fits_chunk k 0 (k0_off3_eq k) (k0_off1_eq k) (k0_off2_eq k) (k0_off3_inb k) (k0_off1_inb k) (k0_off2_inb k) X2 X10 X11) <|
    .nil

/-- The stores of the first `m` trips: each is one chunk of one of those trips, and every chunk of them is there. -/
theorem pb1_fits (X2 : BufTy.Contents (Elt Ideal) arg2.view.ty) (X10 : BufTy.Contents (Elt Ideal) arg10.view.ty) (X11 : BufTy.Contents (Elt Ideal) arg11.view.ty) :
    ∀ m : Nat, m ≤ k0_t1_loop.trips →
      (∀ p ∈ (pb_k0_t1 (F := Ideal) Variants.none c none i arg1 harg1 arg2 harg2 arg3 harg3 arg4 harg4 arg5 harg5 arg6 harg6 arg7 harg7 arg8 harg8 arg9 harg9 arg10 harg10 arg11 harg11 X2 X10 X11 m), ∃ k n, Fits (weightsOf (arg2.view.read (Elt Ideal) X2) (arg10.view.read (Elt Ideal) X10) (arg11.view.read (Elt Ideal) X11)) k n p)
      ∧ ∀ (k : Fin k0_t1_loop.trips) (n : Fin 36), k.val < m → ∃ p ∈ (pb_k0_t1 (F := Ideal) Variants.none c none i arg1 harg1 arg2 harg2 arg3 harg3 arg4 harg4 arg5 harg5 arg6 harg6 arg7 harg7 arg8 harg8 arg9 harg9 arg10 harg10 arg11 harg11 X2 X10 X11 m), Fits (weightsOf (arg2.view.read (Elt Ideal) X2) (arg10.view.read (Elt Ideal) X10) (arg11.view.read (Elt Ideal) X11)) k n p
  | 0, _ => ⟨fun _ h => absurd h List.not_mem_nil, fun _ _ h => absurd h (Nat.not_lt_zero _)⟩
  | m + 1, hm => by
    obtain ⟨h1, h2⟩ := pb1_fits X2 X10 X11 m (by omega)
    rw [pb_k0_t1_succ Variants.none c none i arg1 harg1 arg2 harg2 arg3 harg3 arg4 harg4 arg5 harg5 arg6 harg6 arg7 harg7 arg8 harg8 arg9 harg9 arg10 harg10 arg11 harg11 X2 X10 X11 ⟨m, hm⟩]
    have ht := trip_fits c i arg1 harg1 arg2 harg2 arg3 harg3 arg4 harg4 arg5 harg5 arg6 harg6 arg7 harg7 arg8 harg8 arg9 harg9 arg10 harg10 arg11 harg11 X2 X10 X11 ⟨m, hm⟩
    refine ⟨fun p hp => ?_, fun k n hk => ?_⟩
    · rcases List.mem_append.1 hp with hp | hp
      · obtain ⟨n, _, hn⟩ := mem_right ht hp
        exact ⟨_, n, hn⟩
      · exact h1 p hp
    · by_cases e : k.val = m
      · obtain rfl : k = ⟨m, hm⟩ := Fin.ext e
        have hn : n ∈ ([35, 34, 33, 32, 31, 30, 29, 28, 27, 26, 25, 24, 23, 22, 21, 20, 19, 18, 17, 16, 15, 14, 13, 12, 11, 10, 9, 8, 7, 6, 5, 4, 3, 2, 1, 0] : List (Fin 36)) := by
          revert n; decide
        obtain ⟨p, hp, hf⟩ := mem_left ht hn
        exact ⟨p, List.mem_append_left _ hp, hf⟩
      · obtain ⟨p, hp, hf⟩ := h2 k n (by omega)
        exact ⟨p, List.mem_append_right _ hp, hf⟩

/-- THE FIRST LOOP leaves the block's weights in the weight buffer, whatever that held before. -/
theorem weights_read (X2 : BufTy.Contents (Elt Ideal) arg2.view.ty) (X10 : BufTy.Contents (Elt Ideal) arg10.view.ty) (X11 : BufTy.Contents (Elt Ideal) arg11.view.ty)
    (X7 : BufTy.Contents (Elt Ideal) arg7.view.ty) (m : Nat) (hm : m = k0_t1_loop.trips) :
    arg7.view.read (Elt Ideal) (arg7.view.writes (Elt Ideal) X7 (pb_k0_t1 (F := Ideal) Variants.none c none i arg1 harg1 arg2 harg2 arg3 harg3 arg4 harg4 arg5 harg5 arg6 harg6 arg7 harg7 arg8 harg8 arg9 harg9 arg10 harg10 arg11 harg11 X2 X10 X11 m)) = (weightsOf (arg2.view.read (Elt Ideal) X2) (arg10.view.read (Elt Ideal) X10) (arg11.view.read (Elt Ideal) X11)) := by
  obtain ⟨h1, h2⟩ := pb1_fits c i arg1 harg1 arg2 harg2 arg3 harg3 arg4 harg4 arg5 harg5 arg6 harg6 arg7 harg7 arg8 harg8 arg9 harg9 arg10 harg10 arg11 harg11 X2 X10 X11 m hm.le
  funext y
  have y0 : (y 0).val < 512 := (y 0).isLt
  have y1 : (y 1).val < 4608 := (y 1).isLt
  refine View.read_writes_apply_of_pieces _ _ _ _ (fun p hp => ?_) y ?_
  · obtain ⟨_, _, h⟩ := h1 p hp
    exact h.1
  · obtain ⟨p, hp, h⟩ := h2 ⟨(y 0).val / 32, by rw [trips1]; omega⟩ ⟨(y 1).val / 128, by omega⟩ (by have := trips1; show (y 0).val / 32 < m; omega)
    exact ⟨p, hp, h.2 y rfl rfl⟩

end

end Cert.Proof
end
-- ==== Proof.Dots.lean ====
/- The second loop: trip `k` multiplies 512 rows of inputs with the block's weights; after its six trips the output window
   holds the products of every row of inputs with every column's weights. -/
module

public import proofs.«01_k».proof.Proof.Gen.KernelIdeal.Loops
public import Idealize.ShloMosaic.Lib.Writes
public import Idealize.ShloMosaic.Lib.Pointwise
public import Idealize.ShloMosaic.Lib.MatmulPlain
public import Idealize.ShloMosaic.Lib.Pipeline.FrameBody
public import Idealize.ShloMosaic.Lib.Pipeline.ValueKit.Tiles
public import Idealize.ShloMosaic.PureOps.Ideal

@[expose] public section

set_option maxRecDepth 16384

noncomputable section

namespace Cert.Proof

open Idealize.ShloMosaic Idealize.ShloMosaic.TcCoe Idealize.SL.Sem Cert.KernelIdeal Cert.KernelIdeal.Gen

/-- Every row of inputs times every column's weights. -/
def dots (x : Vec Ideal S3072x4608 .bf16) (w : Vec Ideal S512x4608 .bf16) : Vec Ideal S3072x512 .bf16 := fun y =>
  ∑ k : Fin 4608, x (ix2 (y 0) k) * w (ix2 (y 1) k)

theorem trips2 : k0_t2_loop.trips = 6 := by decide

/-- The matrix product of one trip at an element. -/
theorem pay4_apply (x w : Vec Ideal S512x4608 .bf16) (p q : Fin 512) :
    k0_pay4 x w (ix2 p q) = ∑ k : Fin 4608, x (ix2 p k) * w (ix2 q k) := by
  unfold k0_pay4
  pointwise

/-- One trip's store writes the products' own elements. -/
theorem dots_piece {arg1 : Memref sig .tc .vmem S3072x4608 .bf16} {arg7 : Memref sig .tc .vmem S512x4608 .bf16}
    (k : Fin k0_t2_loop.trips) {off offx : Fin 2 → Nat} (e : off = ![512 * k.val, 0]) (ex : offx = ![512 * k.val, 0])
    (inb : ∀ a, off a + S512x512.size a ≤ S3072x512.size a) (inbx : ∀ a, offx a + S512x4608.size a ≤ S3072x4608.size a)
    (inbw : ∀ a, (![0, 0] : Fin 2 → Nat) a + S512x4608.size a ≤ S512x4608.size a)
    (X1 : BufTy.Contents (Elt Ideal) arg1.view.ty) (X7 : BufTy.Contents (Elt Ideal) arg7.view.ty) (x : S512x512.Idx) :
    k0_pay4 (F := Ideal) (View.readAt (Elt Ideal) arg1.view (Rect.unit (s := S3072x4608) offx S512x4608.size inbx).toLoadRect X1)
        (View.readAt (Elt Ideal) arg7.view (Rect.unit (s := S512x4608) ![0, 0] S512x4608.size inbw).toLoadRect X7) x
      = dots (arg1.view.read (Elt Ideal) X1) (arg7.view.read (Elt Ideal) X7) ((Rect.unit (s := S3072x512) off S512x512.size inb).emb x) := by
  subst e ex
  obtain ⟨p, q, rfl⟩ : ∃ p q : Fin 512, x = ix2 p q := ⟨x 0, x 1, by funext a; match a with | ⟨0, _⟩ => rfl | ⟨1, _⟩ => rfl⟩
  have key : ∀ y : S3072x512.Idx, (y 0).val = 512 * k.val + p.val → (y 1).val = q.val →
      k0_pay4 (F := Ideal) (View.readAt (Elt Ideal) arg1.view (Rect.unit (s := S3072x4608) ![512 * k.val, 0] S512x4608.size inbx).toLoadRect X1)
        (View.readAt (Elt Ideal) arg7.view (Rect.unit (s := S512x4608) ![0, 0] S512x4608.size inbw).toLoadRect X7) (ix2 p q)
      = dots (arg1.view.read (Elt Ideal) X1) (arg7.view.read (Elt Ideal) X7) y := by
    intro y e0 e1
    refine (pay4_apply _ _ p q).trans (Finset.sum_congr rfl fun i _ => congrArg₂ (· * ·) ?_ ?_)
    · refine View.ld_unit_apply_of _ _ _ inbx _ _ fun a => ?_
      match a with
      | ⟨0, _⟩ => exact e0
      | ⟨1, _⟩ => exact (Nat.zero_add _).symm
    · refine View.ld_unit_apply_of _ _ _ inbw _ _ fun a => ?_
      match a with
      | ⟨0, _⟩ => exact e1.trans (Nat.zero_add _).symm
      | ⟨1, _⟩ => exact (Nat.zero_add _).symm
  exact key _ (by show 512 * k.val + 1 * p.val = _; omega) (by show 0 + 1 * q.val = _; omega)

section
variable (c : Dev nD) (i : grid0.Coords) (arg1 : Memref sig .tc .vmem S3072x4608 .bf16) (harg1 : arg1.IsWhole) (arg2 : Memref sig .tc .vmem S512x2304 .i8) (harg2 : arg2.IsWhole) (arg3 : Memref sig .tc .vmem S18x512 .f16) (harg3 : arg3.IsWhole) (arg4 : Memref sig .tc .vmem S18x512 .f16) (harg4 : arg4.IsWhole) (arg5 : Memref sig .tc .vmem S18x12x512 .i8) (harg5 : arg5.IsWhole) (arg6 : Memref sig .tc .vmem S3072x512 .bf16) (harg6 : arg6.IsWhole) (arg7 : Memref sig .tc .vmem S512x4608 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S512x256 .f32) (harg10 : arg10.IsWhole) (arg11 : Memref sig .tc .vmem S512x256 .f32) (harg11 : arg11.IsWhole)

/-- The stores of the first `m` trips: each writes the products' own elements, and they cover the rows of those trips. -/
theorem pb2_fits (X1 : BufTy.Contents (Elt Ideal) arg1.view.ty) (X7 : BufTy.Contents (Elt Ideal) arg7.view.ty) :
    ∀ m : Nat, m ≤ k0_t2_loop.trips →
      (∀ p ∈ (pb_k0_t2 (F := Ideal) Variants.none c none i arg1 harg1 arg2 harg2 arg3 harg3 arg4 harg4 arg5 harg5 arg6 harg6 arg7 harg7 arg8 harg8 arg9 harg9 arg10 harg10 arg11 harg11 X1 X7 m), ∀ x, p.2 x = (dots (arg1.view.read (Elt Ideal) X1) (arg7.view.read (Elt Ideal) X7)) (p.1.emb x))
      ∧ ∀ y : S3072x512.Idx, (y 0).val < 512 * m → ∃ p ∈ (pb_k0_t2 (F := Ideal) Variants.none c none i arg1 harg1 arg2 harg2 arg3 harg3 arg4 harg4 arg5 harg5 arg6 harg6 arg7 harg7 arg8 harg8 arg9 harg9 arg10 harg10 arg11 harg11 X1 X7 m), y ∈ p.1.set
  | 0, _ => ⟨fun _ h => absurd h List.not_mem_nil, fun _ h => absurd h (Nat.not_lt_zero _)⟩
  | m + 1, hm => by
    obtain ⟨h1, h2⟩ := pb2_fits X1 X7 m (by omega)
    have ht := trips2
    rw [pb_k0_t2_succ Variants.none c none i arg1 harg1 arg2 harg2 arg3 harg3 arg4 harg4 arg5 harg5 arg6 harg6 arg7 harg7 arg8 harg8 arg9 harg9 arg10 harg10 arg11 harg11 X1 X7 ⟨m, hm⟩]
    delta tripL_k0_t2 trip_k0_t2
    dsimp only
    have e58 := k0_off58_eq ⟨m, hm⟩
    have e57 := k0_off57_eq ⟨m, hm⟩
    refine ⟨fun p hp => ?_, fun y hy => ?_⟩
    · rcases List.mem_append.1 hp with hp | hp
      · obtain rfl := List.mem_singleton.1 hp
        exact dots_piece ⟨m, hm⟩ e58 e57 (k0_off58_inb ⟨m, hm⟩) (k0_off57_inb ⟨m, hm⟩) _ X1 X7
      · exact h1 p hp
    · have y1 : (y 1).val < 512 := (y 1).isLt
      by_cases e : (y 0).val < 512 * m
      · obtain ⟨p, hp, hf⟩ := h2 y e
        exact ⟨p, List.mem_append_right _ hp, hf⟩
      · refine ⟨_, List.mem_append_left _ (List.mem_singleton.2 rfl), ?_⟩
        rw [Rect.mem_set_unit]
        intro a
        rw [e58]
        match a with
        | ⟨0, _⟩ => exact ⟨by show 512 * m ≤ (y 0).val; omega, by show (y 0).val < 512 * m + 512; omega⟩
        | ⟨1, _⟩ => exact ⟨Nat.zero_le _, by show (y 1).val < 0 + 512; omega⟩

/-- THE SECOND LOOP leaves the products in the output window, whatever that held before. -/
theorem dots_read (X1 : BufTy.Contents (Elt Ideal) arg1.view.ty) (X7 : BufTy.Contents (Elt Ideal) arg7.view.ty)
    (X6 : BufTy.Contents (Elt Ideal) arg6.view.ty) (m : Nat) (hm : m = k0_t2_loop.trips) :
    arg6.view.read (Elt Ideal) (arg6.view.writes (Elt Ideal) X6 (pb_k0_t2 (F := Ideal) Variants.none c none i arg1 harg1 arg2 harg2 arg3 harg3 arg4 harg4 arg5 harg5 arg6 harg6 arg7 harg7 arg8 harg8 arg9 harg9 arg10 harg10 arg11 harg11 X1 X7 m)) = (dots (arg1.view.read (Elt Ideal) X1) (arg7.view.read (Elt Ideal) X7)) := by
  obtain ⟨h1, h2⟩ := pb2_fits c i arg1 harg1 arg2 harg2 arg3 harg3 arg4 harg4 arg5 harg5 arg6 harg6 arg7 harg7 arg8 harg8 arg9 harg9 arg10 harg10 arg11 harg11 X1 X7 m hm.le
  have ht := trips2
  funext y
  have y0 : (y 0).val < 3072 := (y 0).isLt
  exact View.read_writes_apply_of_pieces _ _ _ _ h1 y (h2 y (by omega))

end

end Cert.Proof
end
-- ==== Proof.Rows.lean ====
/- One super-block's eight scales and eight offsets of a column, in plain arithmetic. -/
module

public import proofs.«01_k».proof.Proof.Ops
public import proofs.«01_k».proof.Proof.Spec
public import Idealize.ShloMosaic.Lib.Pointwise
public import Idealize.ShloMosaic.Lib.Pipeline.Value
public import Idealize.ShloMosaic.PureOps.Ideal

@[expose] public section

noncomputable section

namespace Cert.Proof

open Idealize.ShloMosaic Idealize.SL.Sem Cert.KernelIdeal Cert.KernelIdeal.Gen

/-- Scale `s` of column `n`: the super-block's scale times the 6-bit scale of the column's twelve bytes. -/
theorem scaleRows_apply (v3 : Vec Ideal S1x12x512 .i8) (v29 : Vec Ideal S1x512 .f16) (s : Fin 8) (n : Fin 512) :
    scaleRows v3 v29 (ix2 s n) = v29 (ix2 0 n) * num (scaleWord (fun u => v3 (ix3 0 u n)) s) := by
  unfold scaleRows k0_pay195 k0_pay193 k0_pay192
  pointwise
  rfl

/-- Offset `s` of column `n`: the super-block's offset scale times the 6-bit minimum of the column's twelve bytes. -/
theorem offsetRows_apply (v3 : Vec Ideal S1x12x512 .i8) (v38 : Vec Ideal S1x512 .f16) (s : Fin 8) (n : Fin 512) :
    offsetRows v3 v38 (ix2 s n) = v38 (ix2 0 n) * num (minWord (fun u => v3 (ix3 0 u n)) s) := by
  unfold offsetRows k0_pay196 k0_pay194 k0_pay193 k0_pay192
  pointwise
  rfl

end Cert.Proof
end
-- ==== Proof.Table.lean ====
/- The scale and the offset tables: eighteen stores of eight rows, one for each super-block, then two transposed stores.
   The table read at a column and one of its 144 groups is that group's scale, or its offset. -/
module

public import proofs.«01_k».proof.Proof.Rows
public import proofs.«01_k».proof.Proof.Lists
public import Idealize.ShloMosaic.Lib.Writes
public import Idealize.ShloMosaic.Lib.Pipeline.FrameBody
public import Idealize.ShloMosaic.Lib.Pipeline.ValueKit.Tiles

@[expose] public section

set_option maxRecDepth 16384

noncomputable section

namespace Cert.Proof

open Idealize.ShloMosaic Idealize.ShloMosaic.TcCoe Idealize.SL.Sem Cert.KernelIdeal Cert.KernelIdeal.Gen

/-- The scales of a block's columns, a row for each group; the 112 rows after the groups' are of no account. -/
def scaleTab (d : Vec Ideal S18x512 .f16) (u : Vec Ideal S18x12x512 .i8) : Vec Ideal S256x512 .f32 := fun y =>
  if h : (y 0).val < 144 then groupScale (fun b => d (ix2 b (y 1))) (fun b t => u (ix3 b t (y 1))) ⟨(y 0).val, h⟩ else 0

/-- The offsets of a block's columns, a row for each group. -/
def offsetTab (d : Vec Ideal S18x512 .f16) (u : Vec Ideal S18x12x512 .i8) : Vec Ideal S256x512 .f32 := fun y =>
  if h : (y 0).val < 144 then groupOffset (fun b => d (ix2 b (y 1))) (fun b t => u (ix3 b t (y 1))) ⟨(y 0).val, h⟩ else 0

/-- A store belongs to super-block `b` of the table `G`: it writes `G`'s own elements, and covers that super-block's rows. -/
def RowFits (G : Vec Ideal S256x512 .f32) (b : Fin 18) (p : View.Piece (Elt Ideal) S256x512 .f32) : Prop :=
  (∀ x, p.2 x = G (p.1.emb x)) ∧ ∀ y : S256x512.Idx, (y 0).val / 8 = b.val → y ∈ p.1.set

theorem row_mem (b : Fin 18) (inb : ∀ a, (![8 * b.val, 0] : Fin 2 → Nat) a + S8x512.size a ≤ S256x512.size a) (y : S256x512.Idx)
    (h : (y 0).val / 8 = b.val) : y ∈ (Rect.unit (s := S256x512) ![8 * b.val, 0] S8x512.size inb).set := by
  rw [Rect.mem_set_unit]
  intro a
  match a with
  | ⟨0, _⟩ => exact ⟨by show 8 * b.val ≤ (y 0).val; omega, by show (y 0).val < 8 * b.val + 8; omega⟩
  | ⟨1, _⟩ => exact ⟨Nat.zero_le _, by have : (y 1).val < 512 := (y 1).isLt; show (y 1).val < 0 + 512; omega⟩

/-- One super-block's store into the scale table writes its own rows of it. -/
theorem row_scale {arg3 : Memref sig .tc .vmem S18x512 .f16} {arg5 : Memref sig .tc .vmem S18x12x512 .i8} (b : Fin 18)
    {off offd : Fin 2 → Nat} {offu : Fin 3 → Nat} (e : off = ![8 * b.val, 0]) (ed : offd = ![b.val, 0]) (eu : offu = ![b.val, 0, 0])
    (inb : ∀ a, off a + S8x512.size a ≤ S256x512.size a) (inbd : ∀ a, offd a + S1x512.size a ≤ S18x512.size a)
    (inbu : ∀ a, offu a + S1x12x512.size a ≤ S18x12x512.size a)
    (X : BufTy.Contents (Elt Ideal) arg3.view.ty) (X5 : BufTy.Contents (Elt Ideal) arg5.view.ty) :
    RowFits (scaleTab (arg3.view.read (Elt Ideal) X) (arg5.view.read (Elt Ideal) X5)) b
      ⟨Rect.unit (s := S256x512) off S8x512.size inb,
        scaleRows (F := Ideal) (View.readAt (Elt Ideal) arg5.view (Rect.unit (s := S18x12x512) offu S1x12x512.size inbu).toLoadRect X5)
          (View.readAt (Elt Ideal) arg3.view (Rect.unit (s := S18x512) offd S1x512.size inbd).toLoadRect X)⟩ := by
  subst e ed eu
  refine ⟨fun x => ?_, fun y h => row_mem b inb y h⟩
  obtain ⟨s, n, rfl⟩ : ∃ (s : Fin 8) (n : Fin 512), x = ix2 s n := ⟨x 0, x 1, by funext a; match a with | ⟨0, _⟩ => rfl | ⟨1, _⟩ => rfl⟩
  refine (scaleRows_apply _ _ s n).trans ?_
  have key : ∀ y : S256x512.Idx, (y 0).val = 8 * b.val + s.val → (y 1).val = n.val →
      View.readAt (Elt Ideal) arg3.view (Rect.unit (s := S18x512) ![b.val, 0] S1x512.size inbd).toLoadRect X (ix2 0 n)
        * num (scaleWord (fun u => View.readAt (Elt Ideal) arg5.view (Rect.unit (s := S18x12x512) ![b.val, 0, 0] S1x12x512.size inbu).toLoadRect X5 (ix3 0 u n)) s)
      = scaleTab (arg3.view.read (Elt Ideal) X) (arg5.view.read (Elt Ideal) X5) y := by
    intro y e0 e1
    have hy : (y 0).val < 144 := by have := b.isLt; have := s.isLt; omega
    unfold scaleTab groupScale
    rw [dif_pos hy]
    have eb : (⟨(y 0).val / 8, by omega⟩ : Fin 18) = b := Fin.ext (by show (y 0).val / 8 = b.val; omega)
    have es : (⟨(y 0).val % 8, by omega⟩ : Fin 8) = s := Fin.ext (by show (y 0).val % 8 = s.val; omega)
    have en : y 1 = n := Fin.ext e1
    rw [eb, es, en]
    refine congrArg₂ (· * ·) ?_ (congrArg num (congrArg (fun u => scaleWord u s) (funext fun u => ?_)))
    · refine View.ld_unit_apply_of _ _ _ inbd _ _ fun a => ?_
      match a with
      | ⟨0, _⟩ => rfl
      | ⟨1, _⟩ => exact (Nat.zero_add _).symm
    · refine View.ld_unit_apply_of _ _ _ inbu _ _ fun a => ?_
      match a with
      | ⟨0, _⟩ => rfl
      | ⟨1, _⟩ => exact (Nat.zero_add _).symm
      | ⟨2, _⟩ => exact (Nat.zero_add _).symm
  exact key _ (by show 8 * b.val + 1 * s.val = _; omega) (by show 0 + 1 * n.val = _; omega)

/-- One super-block's store into the offset table writes its own rows of it. -/
theorem row_offset {arg4 : Memref sig .tc .vmem S18x512 .f16} {arg5 : Memref sig .tc .vmem S18x12x512 .i8} (b : Fin 18)
    {off offd : Fin 2 → Nat} {offu : Fin 3 → Nat} (e : off = ![8 * b.val, 0]) (ed : offd = ![b.val, 0]) (eu : offu = ![b.val, 0, 0])
    (inb : ∀ a, off a + S8x512.size a ≤ S256x512.size a) (inbd : ∀ a, offd a + S1x512.size a ≤ S18x512.size a)
    (inbu : ∀ a, offu a + S1x12x512.size a ≤ S18x12x512.size a)
    (X : BufTy.Contents (Elt Ideal) arg4.view.ty) (X5 : BufTy.Contents (Elt Ideal) arg5.view.ty) :
    RowFits (offsetTab (arg4.view.read (Elt Ideal) X) (arg5.view.read (Elt Ideal) X5)) b
      ⟨Rect.unit (s := S256x512) off S8x512.size inb,
        offsetRows (F := Ideal) (View.readAt (Elt Ideal) arg5.view (Rect.unit (s := S18x12x512) offu S1x12x512.size inbu).toLoadRect X5)
          (View.readAt (Elt Ideal) arg4.view (Rect.unit (s := S18x512) offd S1x512.size inbd).toLoadRect X)⟩ := by
  subst e ed eu
  refine ⟨fun x => ?_, fun y h => row_mem b inb y h⟩
  obtain ⟨s, n, rfl⟩ : ∃ (s : Fin 8) (n : Fin 512), x = ix2 s n := ⟨x 0, x 1, by funext a; match a with | ⟨0, _⟩ => rfl | ⟨1, _⟩ => rfl⟩
  refine (offsetRows_apply _ _ s n).trans ?_
  have key : ∀ y : S256x512.Idx, (y 0).val = 8 * b.val + s.val → (y 1).val = n.val →
      View.readAt (Elt Ideal) arg4.view (Rect.unit (s := S18x512) ![b.val, 0] S1x512.size inbd).toLoadRect X (ix2 0 n)
        * num (minWord (fun u => View.readAt (Elt Ideal) arg5.view (Rect.unit (s := S18x12x512) ![b.val, 0, 0] S1x12x512.size inbu).toLoadRect X5 (ix3 0 u n)) s)
      = offsetTab (arg4.view.read (Elt Ideal) X) (arg5.view.read (Elt Ideal) X5) y := by
    intro y e0 e1
    have hy : (y 0).val < 144 := by have := b.isLt; have := s.isLt; omega
    unfold offsetTab groupOffset
    rw [dif_pos hy]
    have eb : (⟨(y 0).val / 8, by omega⟩ : Fin 18) = b := Fin.ext (by show (y 0).val / 8 = b.val; omega)
    have es : (⟨(y 0).val % 8, by omega⟩ : Fin 8) = s := Fin.ext (by show (y 0).val % 8 = s.val; omega)
    have en : y 1 = n := Fin.ext e1
    rw [eb, es, en]
    refine congrArg₂ (· * ·) ?_ (congrArg num (congrArg (fun u => minWord u s) (funext fun u => ?_)))
    · refine View.ld_unit_apply_of _ _ _ inbd _ _ fun a => ?_
      match a with
      | ⟨0, _⟩ => rfl
      | ⟨1, _⟩ => exact (Nat.zero_add _).symm
    · refine View.ld_unit_apply_of _ _ _ inbu _ _ fun a => ?_
      match a with
      | ⟨0, _⟩ => rfl
      | ⟨1, _⟩ => exact (Nat.zero_add _).symm
      | ⟨2, _⟩ => exact (Nat.zero_add _).symm
  exact key _ (by show 8 * b.val + 1 * s.val = _; omega) (by show 0 + 1 * n.val = _; omega)

/-- The super-blocks in the order their stores are listed, last first. -/
abbrev rowOrder : List (Fin 18) := [17, 16, 15, 14, 13, 12, 11, 10, 9, 8, 7, 6, 5, 4, 3, 2, 1, 0]

/-- After stores the last eighteen of which are the super-blocks', a group's row is the table's, whatever was there before. -/
theorem rows_read {arg8 : Memref sig .tc .vmem S256x512 .f32} {G : Vec Ideal S256x512 .f32} (f : BufTy.Contents (Elt Ideal) arg8.view.ty)
    (L : List (View.Piece (Elt Ideal) S256x512 .f32)) (hL : List.Forall₂ (RowFits G) rowOrder (L.take 18)) (y : S256x512.Idx)
    (hy : (y 0).val < 144) : arg8.view.read (Elt Ideal) (arg8.view.writes (Elt Ideal) f L) y = G y := by
  rw [← List.take_append_drop 18 L, View.writes_append]
  refine View.read_writes_apply_of_pieces _ _ _ _ (fun p hp => ?_) y ?_
  · obtain ⟨_, _, h⟩ := mem_right hL hp
    exact h.1
  · have hb : (⟨(y 0).val / 8, by omega⟩ : Fin 18) ∈ rowOrder := by
      generalize (⟨(y 0).val / 8, by omega⟩ : Fin 18) = b
      revert b; decide
    obtain ⟨p, hp, h⟩ := mem_left hL hb
    exact ⟨p, hp, h.2 y rfl⟩

/-- A transposed half of a table. -/
theorem turned_apply (t : Vec Ideal S128x512 .f32) (r : Fin 512) (g : Fin 128) : k0_pay313 t (ix2 r g) = t (ix2 g r) := by
  unfold k0_pay313
  pointwise

/-- THE TRANSPOSED TABLE at a column and a group, from the rows stored before it. -/
theorem table_read {arg8 : Memref sig .tc .vmem S256x512 .f32} {arg10 : Memref sig .tc .vmem S512x256 .f32} {G : Vec Ideal S256x512 .f32}
    (fT : BufTy.Contents (Elt Ideal) arg10.view.ty) (f0 f1 : BufTy.Contents (Elt Ideal) arg8.view.ty)
    (inb0 : ∀ a, (![0, 0] : Fin 2 → Nat) a + S128x512.size a ≤ S256x512.size a) (inb1 : ∀ a, (![128, 0] : Fin 2 → Nat) a + S128x512.size a ≤ S256x512.size a)
    (inc0 : ∀ a, (![0, 0] : Fin 2 → Nat) a + S512x128.size a ≤ S512x256.size a) (inc1 : ∀ a, (![0, 128] : Fin 2 → Nat) a + S512x128.size a ≤ S512x256.size a)
    (L : List (View.Piece (Elt Ideal) S256x512 .f32)) (hL : List.Forall₂ (RowFits G) rowOrder (L.take 18)) (r : Fin 512) (g : Fin 256)
    (hg : g.val < 144) :
    arg10.view.read (Elt Ideal) (arg10.view.writes (Elt Ideal) fT
      [⟨Rect.unit (s := S512x256) ![0, 128] S512x128.size inc1,
          k0_pay313 (F := Ideal) (View.readAt (Elt Ideal) arg8.view (Rect.unit (s := S256x512) ![128, 0] S128x512.size inb1).toLoadRect (arg8.view.writes (Elt Ideal) f1 L))⟩,
        ⟨Rect.unit (s := S512x256) ![0, 0] S512x128.size inc0,
          k0_pay313 (F := Ideal) (View.readAt (Elt Ideal) arg8.view (Rect.unit (s := S256x512) ![0, 0] S128x512.size inb0).toLoadRect (arg8.view.writes (Elt Ideal) f0 L))⟩])
      (ix2 r g) = G (ix2 g r) := by
  by_cases h : g.val < 128
  · have e : (ix2 r g : S512x256.Idx) = (Rect.unit (s := S512x256) ![0, 0] S512x128.size inc0).emb (ix2 r (⟨g.val, h⟩ : Fin 128)) := by
      funext a
      match a with
      | ⟨0, _⟩ => exact Fin.ext (by show r.val = 0 + 1 * r.val; omega)
      | ⟨1, _⟩ => exact Fin.ext (by show g.val = 0 + 1 * g.val; omega)
    have hn : (ix2 r g : S512x256.Idx) ∉ (Rect.unit (s := S512x256) ![0, 128] S512x128.size inc1).set := by
      rw [Rect.mem_set_unit]
      intro hm
      have := (hm 1).1
      exact absurd this (by show ¬128 ≤ g.val; omega)
    refine Eq.trans (View.read_writes_cons_miss _ _ _ _ _ ?_) ?_
    · exact hn
    refine ((View.read_writes_cons_hit arg10.view fT (Rect.unit (s := S512x256) ![0, 0] S512x128.size inc0) _ [] (ix2 r (⟨g.val, h⟩ : Fin 128)) _ e.symm).trans ?_)
    refine (turned_apply _ r ⟨g.val, h⟩).trans ?_
    refine (View.ld_unit_apply_of _ _ _ inb0 _ (ix2 g r) fun a => ?_).trans (rows_read f0 L hL (ix2 g r) hg)
    match a with
    | ⟨0, _⟩ => exact (Nat.zero_add _).symm
    | ⟨1, _⟩ => exact (Nat.zero_add _).symm
  · have e : (ix2 r g : S512x256.Idx) = (Rect.unit (s := S512x256) ![0, 128] S512x128.size inc1).emb (ix2 r (⟨g.val - 128, by omega⟩ : Fin 128)) := by
      funext a
      match a with
      | ⟨0, _⟩ => exact Fin.ext (by show r.val = 0 + 1 * r.val; omega)
      | ⟨1, _⟩ => exact Fin.ext (by show g.val = 128 + 1 * (g.val - 128); omega)
    refine (View.read_writes_cons_hit arg10.view fT (Rect.unit (s := S512x256) ![0, 128] S512x128.size inc1) _ _ (ix2 r (⟨g.val - 128, by omega⟩ : Fin 128)) _ e.symm).trans ?_
    refine (turned_apply _ r ⟨g.val - 128, by omega⟩).trans ?_
    refine (View.ld_unit_apply_of _ _ _ inb1 _ (ix2 g r) fun a => ?_).trans (rows_read f1 L hL (ix2 g r) hg)
    match a with
    | ⟨0, _⟩ => show g.val = 128 + (g.val - 128); omega
    | ⟨1, _⟩ => exact (Nat.zero_add _).symm

end Cert.Proof
end
-- ==== Proof.Run.lean ====
/- The whole body of the kernel at one grid point, run once: what the output block holds afterwards. -/
module

public import proofs.«01_k».proof.Proof.Gen.KernelIdeal.Frame.Runs
public import proofs.«01_k».proof.Proof.Trip
public import proofs.«01_k».proof.Proof.Dots
public import proofs.«01_k».proof.Proof.Table
public import Idealize.ShloMosaic.PureOps.Ideal

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- THE OUTPUT BLOCK from the five input blocks: every row of inputs times every column's dequantised weights. -/
def blockOut (x0 : Vec Ideal S3072x4608 .bf16) (x1 : Vec Ideal S512x2304 .i8) (x2 x3 : Vec Ideal S18x512 .f16) (x4 : Vec Ideal S18x12x512 .i8) :
    Vec Ideal S3072x512 .bf16 := fun j =>
  product (fun k => x0 (ix2 (j 0) k)) (fun b => x1 (ix2 (j 1) b)) (fun b => x2 (ix2 b (j 1))) (fun b => x3 (ix2 b (j 1)))
    (fun b u => x4 (ix3 b u (j 1)))

/-- Products with the weights read off two tables that hold the groups' scales and offsets are the output block. -/
theorem dots_weights (x0 : Vec Ideal S3072x4608 .bf16) (x1 : Vec Ideal S512x2304 .i8) (x2 x3 : Vec Ideal S18x512 .f16)
    (x4 : Vec Ideal S18x12x512 .i8) (s o : Vec Ideal S512x256 .f32)
    (hs : ∀ (r : Fin 512) (g : Fin 256), g.val < 144 → s (ix2 r g) = scaleTab x2 x4 (ix2 g r))
    (ho : ∀ (r : Fin 512) (g : Fin 256), g.val < 144 → o (ix2 r g) = offsetTab x3 x4 (ix2 g r)) :
    dots x0 (weightsOf x1 s o) = blockOut x0 x1 x2 x3 x4 := by
  funext j
  refine Finset.sum_congr rfl fun k _ => congrArg (x0 (ix2 (j 0) k) * ·) ?_
  have hk : (tabOf k).val < 144 := by have := k.isLt; show k.val / 32 < 144; omega
  refine congrArg₂ (· - ·) (congrArg₂ (· * ·) rfl ((hs (j 1) (tabOf k) hk).trans ?_)) ((ho (j 1) (tabOf k) hk).trans ?_)
  · exact dif_pos hk
  · exact dif_pos hk

set_option maxHeartbeats 4000000 in
/-- At the first point, where the tables' rows are zeroed before they are stored. -/
theorem body_first (c : Dev nD) (i : grid0.Coords) (arg1 : Memref sig .tc .vmem S3072x4608 .bf16) (harg1 : arg1.IsWhole) (arg2 : Memref sig .tc .vmem S512x2304 .i8) (harg2 : arg2.IsWhole) (arg3 : Memref sig .tc .vmem S18x512 .f16) (harg3 : arg3.IsWhole) (arg4 : Memref sig .tc .vmem S18x512 .f16) (harg4 : arg4.IsWhole) (arg5 : Memref sig .tc .vmem S18x12x512 .i8) (harg5 : arg5.IsWhole) (arg6 : Memref sig .tc .vmem S3072x512 .bf16) (harg6 : arg6.IsWhole) (arg7 : Memref sig .tc .vmem S512x4608 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S512x256 .f32) (harg10 : arg10.IsWhole) (arg11 : Memref sig .tc .vmem S512x256 .f32) (harg11 : arg11.IsWhole) (hc0 : cond0_0 i)
    (x0 : Vec Ideal S3072x4608 .bf16) (x1 : Vec Ideal S512x2304 .i8) (x2 : Vec Ideal S18x512 .f16) (x3 : Vec Ideal S18x512 .f16) (x4 : Vec Ideal S18x12x512 .i8) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockOut x0 x1 x2 x3 x4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_q4k_linear i arg1 harg1 arg2 harg2 arg3 harg3 arg4 harg4 arg5 harg5 arg6 harg6 arg7 harg7 arg8 harg8 arg9 harg9 arg10 harg10 arg11 harg11) K := by
  simp only [cc0_q4k_linear_eq_skeleton]; unfold cc0_q4k_linear_skel
  simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; skip
    have hs : List.Forall₂ (RowFits (scaleTab (arg3.view.read (Elt Ideal) (harg3.unread x2)) (arg5.view.read (Elt Ideal) (harg5.unread x4)))) rowOrder
        (List.take 18 (body_first.sl.HS1_19 c arg3 harg3 arg5 harg5 x2 x4)) := by
      delta body_first.sl.HS1_19
      iterate 18 refine .cons (row_scale _ rfl rfl rfl _ _ _ _ _) ?_
      exact .nil
    have ho : List.Forall₂ (RowFits (offsetTab (arg4.view.read (Elt Ideal) (harg4.unread x3)) (arg5.view.read (Elt Ideal) (harg5.unread x4)))) rowOrder
        (List.take 18 (body_first.sl.HS2_19 c arg4 harg4 arg5 harg5 x3 x4)) := by
      delta body_first.sl.HS2_19
      iterate 18 refine .cons (row_offset _ rfl rfl rfl _ _ _ _ _) ?_
      exact .nil
    rw [harg3.read_unread, harg5.read_unread] at hs
    rw [harg4.read_unread, harg5.read_unread] at ho
    delta body_first.sl.HS3_2 body_first.sl.HS4_2
    refine (dots_read _ _ _ _ _ _ _ _ _ _ _ _ _ _ _ _ _ _ _ _ _ _ _ _ _ _ _ _ rfl).trans ?_
    rw [harg1.read_unread, weights_read _ _ _ _ _ _ _ _ _ _ _ _ _ _ _ _ _ _ _ _ _ _ _ _ _ _ _ _ _ rfl, harg2.read_unread]
    exact dots_weights x0 x1 x2 x3 x4 _ _ (fun r g hg => table_read _ _ _ _ _ _ _ _ hs r g hg) (fun r g hg => table_read _ _ _ _ _ _ _ _ ho r g hg)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

set_option maxHeartbeats 4000000 in
/-- At every later point. -/
theorem body_later (c : Dev nD) (i : grid0.Coords) (arg1 : Memref sig .tc .vmem S3072x4608 .bf16) (harg1 : arg1.IsWhole) (arg2 : Memref sig .tc .vmem S512x2304 .i8) (harg2 : arg2.IsWhole) (arg3 : Memref sig .tc .vmem S18x512 .f16) (harg3 : arg3.IsWhole) (arg4 : Memref sig .tc .vmem S18x512 .f16) (harg4 : arg4.IsWhole) (arg5 : Memref sig .tc .vmem S18x12x512 .i8) (harg5 : arg5.IsWhole) (arg6 : Memref sig .tc .vmem S3072x512 .bf16) (harg6 : arg6.IsWhole) (arg7 : Memref sig .tc .vmem S512x4608 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S512x256 .f32) (harg10 : arg10.IsWhole) (arg11 : Memref sig .tc .vmem S512x256 .f32) (harg11 : arg11.IsWhole) (hc0 : ¬cond0_0 i)
    (x0 : Vec Ideal S3072x4608 .bf16) (x1 : Vec Ideal S512x2304 .i8) (x2 : Vec Ideal S18x512 .f16) (x3 : Vec Ideal S18x512 .f16) (x4 : Vec Ideal S18x12x512 .i8) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockOut x0 x1 x2 x3 x4) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_q4k_linear i arg1 harg1 arg2 harg2 arg3 harg3 arg4 harg4 arg5 harg5 arg6 harg6 arg7 harg7 arg8 harg8 arg9 harg9 arg10 harg10 arg11 harg11) K := by
  simp only [cc0_q4k_linear_eq_skeleton]; unfold cc0_q4k_linear_skel
  simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; skip
    have hs : List.Forall₂ (RowFits (scaleTab (arg3.view.read (Elt Ideal) (harg3.unread x2)) (arg5.view.read (Elt Ideal) (harg5.unread x4)))) rowOrder
        (List.take 18 (body_later.sl.HS1_18 c arg3 harg3 arg5 harg5 x2 x4)) := by
      delta body_later.sl.HS1_18
      iterate 18 refine .cons (row_scale _ rfl rfl rfl _ _ _ _ _) ?_
      exact .nil
    have ho : List.Forall₂ (RowFits (offsetTab (arg4.view.read (Elt Ideal) (harg4.unread x3)) (arg5.view.read (Elt Ideal) (harg5.unread x4)))) rowOrder
        (List.take 18 (body_later.sl.HS2_18 c arg4 harg4 arg5 harg5 x3 x4)) := by
      delta body_later.sl.HS2_18
      iterate 18 refine .cons (row_offset _ rfl rfl rfl _ _ _ _ _) ?_
      exact .nil
    rw [harg3.read_unread, harg5.read_unread] at hs
    rw [harg4.read_unread, harg5.read_unread] at ho
    delta body_later.sl.HS3_2 body_later.sl.HS4_2
    refine (dots_read _ _ _ _ _ _ _ _ _ _ _ _ _ _ _ _ _ _ _ _ _ _ _ _ _ _ _ _ rfl).trans ?_
    rw [harg1.read_unread, weights_read _ _ _ _ _ _ _ _ _ _ _ _ _ _ _ _ _ _ _ _ _ _ _ _ _ _ _ _ _ rfl, harg2.read_unread]
    exact dots_weights x0 x1 x2 x3 x4 _ _ (fun r g hg => table_read _ _ _ _ _ _ _ _ hs r g hg) (fun r g hg => table_read _ _ _ _ _ _ _ _ ho r g hg)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Proof

end
-- ==== Proof.Frame.lean ====
/- The kernel's run, from the body's triple: every fair execution terminates with the output array at what the 72 points
   write, the arguments unchanged and every semaphore at zero. -/
module

public import proofs.«01_k».proof.Proof.Run
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What point `t` leaves in its output block. -/
def outAt (c : Dev nD) (t : Fin cfg0.N) : Vec Ideal S3072x512 .bf16 :=
  blockOut (iblk m c 0 t) (iblk m c 1 t) (iblk m c 2 t) (iblk m c 3 t) (iblk m c 4 t)

/-- The proof data of the pipeline: after point `t` every input's buffer holds its block and the output's `outAt`; nothing
    is said of the scratch between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The body's resources at point `t` before it runs, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and after. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point, from the two cases of Run.lean. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5,
    show (dats m 0 c).Φ t.succ = Pipeline.ΦA spec0 c from rfl, show (dats m 0 c).Φ t.castSucc = Pipeline.ΦA spec0 c from rfl, PhiA0_eq]
  unfold outAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  by_cases h0 : t.val % 72 = 0
  · iapply (body_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    iintro ⟨H0, H1, H2, H3, H4, H5, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    iexact H5
  · iapply (body_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    iintro ⟨H0, H1, H2, H3, H4, H5, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- THE RUN, with every semaphore at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := Ideal))) (s₀ m ρ) (Pipeline.FramePost cfgs (dats m) 0 (V m)) :=
  (θ_run defs _ _).mono (fun _ h => h.1) (run_main_quiescent m ρ)

/-- THE FRAME of the idealized kernel: it terminates, its arguments unchanged, every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof

end
-- ==== Proof.Host.lean ====
/- What the kernel's blocks hold of the arguments: the host only reshapes and transposes them, and each point of the grid
   reads all of the inputs and the bytes, scales and offsets of its own 512 columns. -/
module

public import proofs.«01_k».proof.Proof.Gen.KernelIdeal.Frame.Runs
public import Idealize.ShloMosaic.PureOps.Ideal
public import Idealize.ShloMosaic.Lib.Pointwise
public import Idealize.ShloMosaic.Lib.StableHlo.ReadAt

@[expose] public section

set_option maxRecDepth 16384

noncomputable section

namespace Cert.Proof

open Cert.KernelIdeal Cert.KernelIdeal.Gen
open Idealize.ShloMosaic Idealize.ShloMosaic.TcCoe Idealize.SL.Sem

variable (m : (ℓ : Loc nD τ sig) → Buf (Elt Ideal) ℓ)

/-- The reshaped inputs. -/
theorem V_inputs (c : Dev nD) (b : Fin 3072) (k : Fin 4608) :
    V m c main_v0 (ix2 b k) = m ((c : Thread nD τ).loc main_arg0) (ix3 b 0 k) := by
  unfold V
  after_reads_at

/-- The transposed super-block scales, -/
theorem V_scales (c : Dev nD) (b : Fin 18) (n : Fin 36864) :
    V m c main_v1 (ix2 b n) = m ((c : Thread nD τ).loc main_arg2) (ix2 n b) := by
  unfold V
  after_reads_at

/-- super-block offsets, -/
theorem V_offsets (c : Dev nD) (b : Fin 18) (n : Fin 36864) :
    V m c main_v2 (ix2 b n) = m ((c : Thread nD τ).loc main_arg3) (ix2 n b) := by
  unfold V
  after_reads_at

/-- and packed 6-bit scales and minima. -/
theorem V_packed (c : Dev nD) (b : Fin 18) (u : Fin 12) (n : Fin 36864) :
    V m c main_v3 (ix3 b u n) = m ((c : Thread nD τ).loc main_arg4) (ix3 n b u) := by
  unfold V
  after_reads_at

/-- Each window's block index at a point. -/
theorem index_facts : ∀ t : Fin cfg0.N,
    win0_0.index t = ![0, 0] ∧ win0_1.index t = ![t.val, 0] ∧ win0_2.index t = ![0, t.val] ∧ win0_3.index t = ![0, t.val]
      ∧ win0_4.index t = ![0, 0, t.val] ∧ win0_5.index t = ![0, t.val] ∧ win0_5.flush t = true :=
  (by decide +kernel : ∀ t : Fin grid0.N, _)

/-- Column `r` of point `t`. -/
def col (t : Fin cfg0.N) (r : Fin 512) : Fin 36864 :=
  ⟨512 * t.val + r.val, by have : t.val < 72 := lt_of_lt_of_eq t.isLt N_0; omega⟩

theorem blk0 (c : Dev nD) (t : Fin cfg0.N) (b : Fin 3072) (k : Fin 4608) :
    iblk m c 0 t (ix2 b k) = m ((c : Thread nD τ).loc main_arg0) (ix3 b 0 k) := by
  obtain ⟨e, -⟩ := index_facts t
  refine Eq.trans ?_ (V_inputs m c b k)
  refine congrArg (V m c main_v0) (funext fun a => Fin.ext ?_)
  match a with
  | ⟨0, _⟩ => show win0_0.index t 0 * 3072 + 1 * b.val = b.val; rw [e]; show 0 * 3072 + 1 * b.val = b.val; omega
  | ⟨1, _⟩ => show win0_0.index t 1 * 4608 + 1 * k.val = k.val; rw [e]; show 0 * 4608 + 1 * k.val = k.val; omega

theorem blk1 (c : Dev nD) (t : Fin cfg0.N) (r : Fin 512) (b : Fin 2304) :
    iblk m c 1 t (ix2 r b) = m ((c : Thread nD τ).loc main_arg1) (ix2 (col t r) b) := by
  obtain ⟨-, e, -⟩ := index_facts t
  refine Eq.trans ?_ (congrFun (V_main_arg1 m c) _)
  refine congrArg (V m c main_arg1) (funext fun a => Fin.ext ?_)
  match a with
  | ⟨0, _⟩ => show win0_1.index t 0 * 512 + 1 * r.val = 512 * t.val + r.val; rw [e]; show t.val * 512 + 1 * r.val = _; omega
  | ⟨1, _⟩ => show win0_1.index t 1 * 2304 + 1 * b.val = b.val; rw [e]; show 0 * 2304 + 1 * b.val = b.val; omega

theorem blk2 (c : Dev nD) (t : Fin cfg0.N) (b : Fin 18) (r : Fin 512) :
    iblk m c 2 t (ix2 b r) = m ((c : Thread nD τ).loc main_arg2) (ix2 (col t r) b) := by
  obtain ⟨-, -, e, -⟩ := index_facts t
  refine Eq.trans ?_ (V_scales m c b (col t r))
  refine congrArg (V m c main_v1) (funext fun a => Fin.ext ?_)
  match a with
  | ⟨0, _⟩ => show win0_2.index t 0 * 18 + 1 * b.val = b.val; rw [e]; show 0 * 18 + 1 * b.val = b.val; omega
  | ⟨1, _⟩ => show win0_2.index t 1 * 512 + 1 * r.val = 512 * t.val + r.val; rw [e]; show t.val * 512 + 1 * r.val = _; omega

theorem blk3 (c : Dev nD) (t : Fin cfg0.N) (b : Fin 18) (r : Fin 512) :
    iblk m c 3 t (ix2 b r) = m ((c : Thread nD τ).loc main_arg3) (ix2 (col t r) b) := by
  obtain ⟨-, -, -, e, -⟩ := index_facts t
  refine Eq.trans ?_ (V_offsets m c b (col t r))
  refine congrArg (V m c main_v2) (funext fun a => Fin.ext ?_)
  match a with
  | ⟨0, _⟩ => show win0_3.index t 0 * 18 + 1 * b.val = b.val; rw [e]; show 0 * 18 + 1 * b.val = b.val; omega
  | ⟨1, _⟩ => show win0_3.index t 1 * 512 + 1 * r.val = 512 * t.val + r.val; rw [e]; show t.val * 512 + 1 * r.val = _; omega

theorem blk4 (c : Dev nD) (t : Fin cfg0.N) (b : Fin 18) (u : Fin 12) (r : Fin 512) :
    iblk m c 4 t (ix3 b u r) = m ((c : Thread nD τ).loc main_arg4) (ix3 (col t r) b u) := by
  obtain ⟨-, -, -, -, e, -⟩ := index_facts t
  refine Eq.trans ?_ (V_packed m c b u (col t r))
  refine congrArg (V m c main_v3) (funext fun a => Fin.ext ?_)
  match a with
  | ⟨0, _⟩ => show win0_4.index t 0 * 18 + 1 * b.val = b.val; rw [e]; show 0 * 18 + 1 * b.val = b.val; omega
  | ⟨1, _⟩ => show win0_4.index t 1 * 12 + 1 * u.val = u.val; rw [e]; show 0 * 12 + 1 * u.val = u.val; omega
  | ⟨2, _⟩ => show win0_4.index t 2 * 512 + 1 * r.val = 512 * t.val + r.val; rw [e]; show t.val * 512 + 1 * r.val = _; omega

end Cert.Proof

end
-- ==== Proof.Layer.lean ====
/- The layer as a function of the five arguments. -/
module

public import proofs.«01_k».proof.Proof.Spec
public import Idealize.ShloMosaic.Lib.Pointwise

@[expose] public section

noncomputable section

namespace Cert.Proof

open Idealize.ShloMosaic

/-- THE LAYER: element (row, column) is that row of inputs times that column's dequantised weights. -/
def layer (x : (⟨3, ![3072, 1, 4608]⟩ : Shape).Idx → EReal) (q : (⟨2, ![36864, 2304]⟩ : Shape).Idx → BitVec 8)
    (d dm : (⟨2, ![36864, 18]⟩ : Shape).Idx → EReal) (u : (⟨3, ![36864, 18, 12]⟩ : Shape).Idx → BitVec 8) :
    (⟨2, ![3072, 36864]⟩ : Shape).Idx → EReal := fun i =>
  product (fun k => x (ix3 (i 0) 0 k)) (fun b => q (ix2 (i 1) b)) (fun b => d (ix2 (i 1) b)) (fun b => dm (ix2 (i 1) b))
    (fun b t => u (ix3 (i 1) b t))

end Cert.Proof

end
-- ==== Proof.Array.lean ====
/- The kernel's output array: the 72 points' blocks side by side are the layer of the arguments. -/
module

public import proofs.«01_k».proof.Proof.Frame
public import proofs.«01_k».proof.Proof.Host
public import proofs.«01_k».proof.Proof.Layer

@[expose] public section

set_option maxRecDepth 16384

noncomputable section

namespace Cert.Proof

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The layer of the arguments. -/
def layerOf (c : Dev nD) : Buf (Elt Ideal) ((c : Thread nD τ).loc main_v4) :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- Point `t`'s block is the layer at its own 512 columns. -/
theorem outAt_apply (c : Dev nD) (t : Fin cfg0.N) (b : Fin 3072) (r : Fin 512) :
    outAt m c t (ix2 b r) = layerOf m c (ix2 b (col t r)) := by
  show product (fun k => iblk m c 0 t (ix2 b k)) (fun k => iblk m c 1 t (ix2 r k)) (fun k => iblk m c 2 t (ix2 k r))
    (fun k => iblk m c 3 t (ix2 k r)) (fun k u => iblk m c 4 t (ix3 k u r)) = _
  simp only [blk0, blk1, blk2, blk3, blk4]
  rfl

/-- What a point writes back is its block of the layer. -/
theorem flushed_eq (c : Dev nD) (t : Fin cfg0.N) :
    (dats m 0 c).flushed 5 t = ((cfg0.win 5).blk t).view.read (Elt Ideal) (layerOf m c) := by
  show (cfg0.win 5).cut (grid0.coords t) ((dats m 0 c).after 5 t) = _
  rw [after_5]
  funext y
  obtain ⟨-, -, -, -, -, e, -⟩ := index_facts t
  refine (outAt_apply m c t (y 0) (y 1)).trans (congrArg (layerOf m c) (funext fun a => Fin.ext ?_))
  match a with
  | ⟨0, _⟩ => show (y 0).val = win0_5.index t 0 * 3072 + 1 * (y 0).val; rw [e]; show (y 0).val = 0 * 3072 + 1 * (y 0).val; omega
  | ⟨1, _⟩ => show 512 * t.val + (y 1).val = win0_5.index t 1 * 512 + 1 * (y 1).val; rw [e]; show _ = t.val * 512 + 1 * (y 1).val; omega

/-- Every element of the array is in some point's block. -/
theorem covered (i : S3072x36864.Idx) : ∃ t : Fin cfg0.N, (cfg0.win 5).flush t = true ∧ i ∈ ((cfg0.win 5).blk t).view.set := by
  have h0 : (i 0).val < 3072 := (i 0).isLt
  have h1 : (i 1).val < 36864 := (i 1).isLt
  have hN : (i 1).val / 512 < cfg0.N := lt_of_lt_of_eq (by omega : _ < 72) N_0.symm
  obtain ⟨-, -, -, -, -, e, hf⟩ := index_facts ⟨(i 1).val / 512, hN⟩
  refine ⟨⟨(i 1).val / 512, hN⟩, hf, ?_⟩
  show i ∈ ((View.whole main_v4).slice (win0_5.rect ⟨(i 1).val / 512, hN⟩)).set
  rw [View.set_slice_whole, Rect.mem_set_unit]
  intro a
  show win0_5.index ⟨(i 1).val / 512, hN⟩ a * S3072x512.size a ≤ (i a).val ∧ (i a).val < win0_5.index ⟨(i 1).val / 512, hN⟩ a * S3072x512.size a + S3072x512.size a
  rw [e]
  match a with
  | ⟨0, _⟩ => show 0 * 3072 ≤ (i 0).val ∧ (i 0).val < 0 * 3072 + 3072; omega
  | ⟨1, _⟩ => show (i 1).val / 512 * 512 ≤ (i 1).val ∧ (i 1).val < (i 1).val / 512 * 512 + 512; omega

theorem final (c : Dev nD) : (dats m 0 c).arrAt 5 cfg0.N = layerOf m c :=
  (dats m 0 c).arrAt_eq_of_cover 5 _ (fun t _ => flushed_eq m c t) covered

/-- THE IDEALIZED KERNEL's run: the result is the layer of the arguments, and the arguments are unchanged. -/
theorem run : θ_run defs (onTc (τ := τ) (main (F := Ideal))) ⟨m, fun _ => 0, ρ⟩ fun r => ∀ c : Dev nD,
      r.2.mem ((c : Thread nD τ).loc main_v4) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final m c), h.2 c⟩)
    (θ_run_and (run_main m ρ) (frame_of m ρ (dats m) (A_eq m) (run_main m ρ)))

end Cert.Proof

end
-- ==== Proof.Sums.lean ====
/- The sum over a row of inputs, split into the low and the high halves of its 72 blocks of 64. -/
module

public import Mathlib.Logic.Equiv.Fin.Basic
public import Mathlib.Algebra.BigOperators.Fin

@[expose] public section

namespace Cert.Proof

/-- A sum over 4608 is the sum over the first halves of 72 blocks of 64 and the sum over their second halves. -/
theorem sum_halves {M : Type*} [AddCommMonoid M] (f : Fin 4608 → M) :
    ∑ k, f k = ∑ g : Fin 72, ∑ j : Fin 32, f ⟨g.val * 64 + j.val, by omega⟩
      + ∑ g : Fin 72, ∑ j : Fin 32, f ⟨g.val * 64 + 32 + j.val, by omega⟩ := by
  rw [← Finset.sum_add_distrib, ← (finProdFinEquiv (m := 72) (n := 64)).sum_comp f, Fintype.sum_prod_type]
  refine Finset.sum_congr rfl fun g _ => ?_
  refine (Fin.sum_univ_add (a := 32) (b := 32) (fun j : Fin (32 + 32) => f (finProdFinEquiv (g, j)))).trans ?_
  refine congrArg₂ (· + ·) (Finset.sum_congr rfl fun j _ => congrArg f (Fin.ext ?_)) (Finset.sum_congr rfl fun j _ => congrArg f (Fin.ext ?_))
  · show j.val + 64 * g.val = g.val * 64 + j.val
    omega
  · show 32 + j.val + 64 * g.val = g.val * 64 + 32 + j.val
    omega

end Cert.Proof
end
-- ==== Proof.Ref.lean ====
/- The reference's result is the layer of the arguments. -/
module

public import proofs.«01_k».proof.Proof.Layer
public import proofs.«01_k».proof.Proof.Sums
public import proofs.«01_k».proof.Proof.Gen.ReferenceIdeal.Value
public import Idealize.ShloMosaic.Lib.Pointwise
public import Idealize.ShloMosaic.Lib.Pipeline.Value

@[expose] public section

set_option maxRecDepth 16384

noncomputable section

namespace Cert.Proof

open Idealize.ShloMosaic Idealize.SL.Sem Cert.ReferenceIdeal Cert.ReferenceIdeal.Gen

/-- The group numbered `p` of block `g`. -/
def pairOf (g : Fin 72) (p : Fin 2) : Fin 144 := ⟨2 * g.val + p.val, by omega⟩

/-- The reference's scales, two groups to a block. -/
theorem ref_scales (u : Vec Ideal S36864x18x12 .i8) (d : Vec Ideal S36864x18 .f16) (n : Fin 36864) (g : Fin 72) (p : Fin 2) :
    k0_pay4 u d (ix3 n g p) = groupScale (fun b => d (ix2 n b)) (fun b t => u (ix3 n b t)) (pairOf g p) := by
  have e8 : (⟨(pairOf g p).val / 8, by omega⟩ : Fin 18) = ⟨g.val / 4, by omega⟩ := Fin.ext (by show (2 * g.val + p.val) / 8 = g.val / 4; omega)
  have e : (⟨(pairOf g p).val % 8, by omega⟩ : Fin 8) = ⟨g.val % 4 * 2 + p.val, by omega⟩ := Fin.ext (by show (2 * g.val + p.val) % 8 = g.val % 4 * 2 + p.val; omega)
  unfold groupScale
  rw [e8, e]
  unfold k0_pay4 k0_pay3 k0_pay2
  pointwise
  rfl

/-- The reference's offsets. -/
theorem ref_offsets (u : Vec Ideal S36864x18x12 .i8) (d : Vec Ideal S36864x18 .f16) (n : Fin 36864) (g : Fin 72) (p : Fin 2) :
    k0_pay5 u d (ix3 n g p) = groupOffset (fun b => d (ix2 n b)) (fun b t => u (ix3 n b t)) (pairOf g p) := by
  have e8 : (⟨(pairOf g p).val / 8, by omega⟩ : Fin 18) = ⟨g.val / 4, by omega⟩ := Fin.ext (by show (2 * g.val + p.val) / 8 = g.val / 4; omega)
  have e : (⟨(pairOf g p).val % 8, by omega⟩ : Fin 8) = ⟨g.val % 4 * 2 + p.val, by omega⟩ := Fin.ext (by show (2 * g.val + p.val) % 8 = g.val % 4 * 2 + p.val; omega)
  unfold groupOffset
  rw [e8, e]
  unfold k0_pay5 k0_pay3 k0_pay2
  pointwise
  rfl

/-- The reference's bytes, 32 to a block. -/
theorem ref_bytes (q : Vec Ideal S36864x2304 .i8) (n : Fin 36864) (g : Fin 72) (j : Fin 32) :
    k0_pay6 (F := Ideal) q (ix3 n g j) = BitVec.setWidth 32 (q (ix2 n ⟨g.val * 32 + j.val, by omega⟩)) := by
  unfold k0_pay6
  pointwise

/-- The reference's two products, the low and the high halves of the bytes, at an element. -/
theorem ref_dots (s o : FVec Ideal S36864x72x2 .f32) (w : IVec S36864x72x32 32) (x : Vec Ideal S3072x1x4608 .bf16) (b : Fin 3072) (n : Fin 36864) :
    k0_pay1 s o w 15#32 x (ix2 b n)
      = ∑ g : Fin 72, ∑ j : Fin 32, x (ix3 b 0 ⟨g.val * 64 + j.val, by omega⟩)
            * (num (IntOp.andi (w (ix3 n g j)) 15#32) * s (ix3 n g 0) - o (ix3 n g 0))
        + ∑ g : Fin 72, ∑ j : Fin 32, x (ix3 b 0 ⟨g.val * 64 + 32 + j.val, by omega⟩)
            * (num (IntOp.shrsi .vector (w (ix3 n g j)) 4#32) * s (ix3 n g 1) - o (ix3 n g 1)) := by
  unfold k0_pay1
  pointwise
  rfl

/-- THE REFERENCE's result is the layer. -/
theorem ref_layer (a0 : Vec Ideal S3072x1x4608 .bf16) (a1 : Vec Ideal S36864x2304 .i8) (a2 a3 : Vec Ideal S36864x18 .f16)
    (a4 : Vec Ideal S36864x18x12 .i8) :
    k0_pay1 (k0_pay4 a4 a2) (k0_pay5 a4 a3) (k0_pay6 (F := Ideal) a1) 15#32 a0 = layer a0 a1 a2 a3 a4 := by
  funext i
  obtain ⟨b, n, rfl⟩ : ∃ (b : Fin 3072) (n : Fin 36864), i = ix2 b n := ⟨i 0, i 1, by funext a; match a with | ⟨0, _⟩ => rfl | ⟨1, _⟩ => rfl⟩
  refine (ref_dots _ _ _ _ b n).trans (Eq.trans ?_ (sum_halves fun k => a0 (ix3 b 0 k) * weight (fun t => a1 (ix2 n t))
    (groupScale (fun t => a2 (ix2 n t)) fun t v => a4 (ix3 n t v)) (groupOffset (fun t => a3 (ix2 n t)) fun t v => a4 (ix3 n t v)) k).symm)
  refine congrArg₂ (· + ·) (Finset.sum_congr rfl fun g _ => Finset.sum_congr rfl fun j _ => ?_)
    (Finset.sum_congr rfl fun g _ => Finset.sum_congr rfl fun j _ => ?_)
  · rw [ref_scales, ref_offsets, ref_bytes]
    refine congrArg₂ (· * ·) rfl ?_
    unfold weight
    have e0 : groupOf ⟨g.val * 64 + j.val, by omega⟩ = pairOf g 0 := Fin.ext (by show (g.val * 64 + j.val) / 32 = 2 * g.val + 0; omega)
    have e1 : byteOf ⟨g.val * 64 + j.val, by omega⟩ = ⟨g.val * 32 + j.val, by omega⟩ :=
      Fin.ext (by show (g.val * 64 + j.val) / 64 * 32 + (g.val * 64 + j.val) % 32 = g.val * 32 + j.val; omega)
    have e2 : halfOf ⟨g.val * 64 + j.val, by omega⟩ = 0 := Fin.ext (by show (g.val * 64 + j.val) / 32 % 2 = 0; omega)
    rw [e0, e1, e2]
    rfl
  · rw [ref_scales, ref_offsets, ref_bytes]
    refine congrArg₂ (· * ·) rfl ?_
    unfold weight
    have e0 : groupOf ⟨g.val * 64 + 32 + j.val, by omega⟩ = pairOf g 1 := Fin.ext (by show (g.val * 64 + 32 + j.val) / 32 = 2 * g.val + 1; omega)
    have e1 : byteOf ⟨g.val * 64 + 32 + j.val, by omega⟩ = ⟨g.val * 32 + j.val, by omega⟩ :=
      Fin.ext (by show (g.val * 64 + 32 + j.val) / 64 * 32 + (g.val * 64 + 32 + j.val) % 32 = g.val * 32 + j.val; omega)
    have e2 : halfOf ⟨g.val * 64 + 32 + j.val, by omega⟩ = 1 := Fin.ext (by show (g.val * 64 + 32 + j.val) / 32 % 2 = 1; omega)
    rw [e0, e1, e2]
    rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.Array
public import proofs.«01_k».proof.Proof.Ref

@[expose] public section

noncomputable section

namespace Cert.Proof

open Idealize.ShloMosaic Idealize.SL.Sem

/-- The kernel and the reference, run at the extended reals from memories with the same arguments, both end with the
layer of those arguments in their result, and the arguments as they were. -/
theorem agree : algebraic_KernelIdeal_ReferenceIdeal (hKernelIdeal := Cert.KernelIdeal.Gen.facts)
    (hReferenceIdeal := Cert.ReferenceIdeal.Gen.facts) := by
  intro m g m' g' _ same
  refine ⟨fun c => layerOf m c, run m g, ?_⟩
  refine (θ_run _ _ _).mono (fun r h c => ?_) (Cert.ReferenceIdeal.Value.run (F := Ideal) m' g')
  obtain ⟨e0, e1, e2, e3, e4⟩ := same c
  refine ⟨(h c).1.trans ((ref_layer _ _ _ _ _).trans ?_), (h c).2⟩
  rw [e0, e1, e2, e3, e4]
  rfl

/-- The whole claim. -/
theorem claim : Cert.Claim :=
  ⟨Cert.Kernel.Gen.facts, Cert.KernelIdeal.Gen.facts, Cert.ReferenceIdeal.Gen.facts,
    fun m g _ => Cert.KernelFrame.frame m g,
    fun m g _ => Cert.Proof.frame m g,
    fun m g _ => Cert.ReferenceIdeal.Gen.frame m g,
    trivial, agree⟩

end Cert.Proof

end
